-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512x224 : Shape := ⟨3, ![512, 512, 224]⟩
abbrev S1312 : Shape := ⟨1, ![1312]⟩
abbrev S512x114688 : Shape := ⟨2, ![512, 114688]⟩
abbrev S114688 : Shape := ⟨1, ![114688]⟩
abbrev S5120 : Shape := ⟨1, ![5120]⟩
abbrev S224 : Shape := ⟨1, ![224]⟩
abbrev S16 : Shape := ⟨1, ![16]⟩
abbrev S_ : Shape := ⟨0, ![]⟩
abbrev S28672 : Shape := ⟨1, ![28672]⟩
abbrev S1x28672 : Shape := ⟨2, ![1, 28672]⟩
abbrev S1x224 : Shape := ⟨2, ![1, 224]⟩

abbrev nBuf : Table → Nat
  | .hbm => 5
  | .local .scVector .vmem => 4
  | _ => 0

abbrev bufTy : (tb : Table) → Fin (nBuf tb) → BufTy
  | .hbm, ⟨0, _⟩ => ⟨S512x512x224, .f32⟩
  | .hbm, ⟨1, _⟩ => ⟨S1312, .i32⟩
  | .hbm, ⟨2, _⟩ => ⟨S512x114688, .f32⟩
  | .hbm, ⟨3, _⟩ => ⟨S512x114688, .f32⟩
  | .hbm, ⟨4, _⟩ => ⟨S512x512x224, .f32⟩
  | .local .scVector .vmem, ⟨0, _⟩ => ⟨S114688, .f32⟩
  | .local .scVector .vmem, ⟨1, _⟩ => ⟨S5120, .f32⟩
  | .local .scVector .vmem, ⟨2, _⟩ => ⟨S1312, .i32⟩
  | .local .scVector .vmem, ⟨3, _⟩ => ⟨S224, .f32⟩
  | _, _ => ⟨S512x512x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_c_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_10 : BitVec 32 := 0#32
  let v32 : BitVec 1 := Scalar.cmpi .sgt v18 c0_i32_10
  let v33 : BitVec 32 := Scalar.extui v32
  let c0_i32_11 : BitVec 32 := 0#32
  let v34 : BitVec 1 := Scalar.cmpi .ne v33 c0_i32_11
  v34

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c1_i32_26 : BitVec 32 := 1#32
  let v51 : BitVec 32 := Scalar.subi v29 c1_i32_26
  let c4_i32_27 : BitVec 32 := 4#32
  let v52 : BitVec 32 := Scalar.remsi v51 c4_i32_27
  let c28672_i32_28 : BitVec 32 := 28672#32
  let v53 : BitVec 32 := Scalar.muli v52 c28672_i32_28
  ![v53.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c1_i32_26 : BitVec 32 := 1#32
  let v51 : BitVec 32 := Scalar.subi v29 c1_i32_26
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28672_i32 : BitVec 32 := 28672#32
  let v30 : BitVec 32 := Scalar.muli v28 c28672_i32
  ![v51.toNat, v30.toNat]
@[reducible] def k0_t1_loop : Scf.Loop 32 :=
  let c0_i32_32 : BitVec 32 := 0#32
  let c80_i32_33 : BitVec 32 := 80#32
  let v56 : BitVec 32 := Scalar.addi c0_i32_32 c80_i32_33
  let c1_i32_34 : BitVec 32 := 1#32
  ⟨c0_i32_32, v56, c1_i32_34⟩
def k0_off3 (k0_t1 : Fin k0_t1_loop.trips) : Fin 1 → Nat :=
  let c0_i32_32 : BitVec 32 := 0#32
  let c1_i32_34 : BitVec 32 := 1#32
  let arg9 : BitVec 32 := Scf.iv c0_i32_32 c1_i32_34 k0_t1
  let c16_i32 : BitVec 32 := 16#32
  let v58 : BitVec 32 := Scalar.muli arg9 c16_i32
  let v59 : Index := Scalar.indexCast v58
  ![v59.toNat]

def k0_chk1 (i : grid0.Coords) (v63 : IVec S16 32) : Prop :=
  (∀ (k0_h1 : k0_cond1 i = 1#1), ∀ a x, ((![v63] : Fin 1 → IVec S16 32) a x).toNat < S114688.size a)
theorem k0_idx1_inb : ∀ (i : grid0.Coords) (v63 : IVec S16 32) (k0_hw1 : k0_chk1 i v63), ∀ (k0_h1 : k0_cond1 i = 1#1), ∀ a x, ((![v63] : Fin 1 → IVec S16 32) a x).toNat < S114688.size a := fun i v63 k0_hw1 k0_h1 => k0_hw1 k0_h1
def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c1_i32_29 : BitVec 32 := 1#32
  let v54 : BitVec 32 := Scalar.subi v29 c1_i32_29
  let c4_i32_30 : BitVec 32 := 4#32
  let v55 : BitVec 32 := Scalar.remsi v54 c4_i32_30
  let c1280_i32 : BitVec 32 := 1280#32
  let v65 : BitVec 32 := Scalar.muli v55 c1280_i32
  let c0_i32_32 : BitVec 32 := 0#32
  let c1_i32_34 : BitVec 32 := 1#32
  let arg9 : BitVec 32 := Scf.iv c0_i32_32 c1_i32_34 k0_t1
  let c16_i32_37 : BitVec 32 := 16#32
  let v66 : BitVec 32 := Scalar.muli arg9 c16_i32_37
  let v67 : BitVec 32 := Scalar.addi v65 v66
  let v68 : Index := Scalar.indexCast v67
  ![v68.toNat]
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c4_i32_12 : BitVec 32 := 4#32
  let v35 : BitVec 32 := Scalar.remsi v29 c4_i32_12
  let c28672_i32_13 : BitVec 32 := 28672#32
  let v36 : BitVec 32 := Scalar.muli v35 c28672_i32_13
  ![v36.toNat]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28672_i32 : BitVec 32 := 28672#32
  let v30 : BitVec 32 := Scalar.muli v28 c28672_i32
  ![v29.toNat, v30.toNat]
@[reducible] def k0_t2_loop : Scf.Loop 32 :=
  let c0_i32_16 : BitVec 32 := 0#32
  let c80_i32 : BitVec 32 := 80#32
  let v38 : BitVec 32 := Scalar.addi c0_i32_16 c80_i32
  let c1_i32_17 : BitVec 32 := 1#32
  ⟨c0_i32_16, v38, c1_i32_17⟩
def k0_off7 (k0_t2 : Fin k0_t2_loop.trips) : Fin 1 → Nat :=
  let c0_i32_16 : BitVec 32 := 0#32
  let c1_i32_17 : BitVec 32 := 1#32
  let arg9 : BitVec 32 := Scf.iv c0_i32_16 c1_i32_17 k0_t2
  let c16_i32 : BitVec 32 := 16#32
  let v51 : BitVec 32 := Scalar.muli arg9 c16_i32
  let v52 : Index := Scalar.indexCast v51
  ![v52.toNat]

def k0_chk2 (v56 : IVec S16 32) : Prop :=
  (∀ a x, ((![v56] : Fin 1 → IVec S16 32) a x).toNat < S114688.size a)
theorem k0_idx2_inb : ∀ (v56 : IVec S16 32) (k0_hw2 : k0_chk2 v56), ∀ a x, ((![v56] : Fin 1 → IVec S16 32) a x).toNat < S114688.size a := fun v56 k0_hw2 => k0_hw2
def k0_off8 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c4_i32_14 : BitVec 32 := 4#32
  let v37 : BitVec 32 := Scalar.remsi v29 c4_i32_14
  let c1280_i32 : BitVec 32 := 1280#32
  let v58 : BitVec 32 := Scalar.muli v37 c1280_i32
  let c0_i32_16 : BitVec 32 := 0#32
  let c1_i32_17 : BitVec 32 := 1#32
  let arg9 : BitVec 32 := Scf.iv c0_i32_16 c1_i32_17 k0_t2
  let c16_i32_27 : BitVec 32 := 16#32
  let v59 : BitVec 32 := Scalar.muli arg9 c16_i32_27
  let v60 : BitVec 32 := Scalar.addi v58 v59
  let v61 : Index := Scalar.indexCast v60
  ![v61.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_19 : BitVec 32 := 0#32
  let v40 : BitVec 1 := Scalar.cmpi .eq v18 c0_i32_19
  let v41 : BitVec 32 := Scalar.extui v40
  let c0_i32_20 : BitVec 32 := 0#32
  let v42 : BitVec 1 := Scalar.cmpi .ne v41 c0_i32_20
  v42

def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_26 : BitVec 32 := 0#32
  let v51 : BitVec 1 := Scalar.cmpi .sgt v28 c0_i32_26
  let v52 : BitVec 32 := Scalar.extui v51
  let c0_i32_27 : BitVec 32 := 0#32
  let v53 : BitVec 1 := Scalar.cmpi .ne v52 c0_i32_27
  v53

def k0_off9 (i : grid0.Coords) : Fin 2 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28672_i32 : BitVec 32 := 28672#32
  let v30 : BitVec 32 := Scalar.muli v28 c28672_i32
  let c224_i32 : BitVec 32 := 224#32
  let v71 : BitVec 32 := Scalar.subi v30 c224_i32
  ![0, v71.toNat]
@[reducible] def k0_t3_loop : Scf.Loop 32 :=
  let c0_i32_29 : BitVec 32 := 0#32
  let c40_i32 : BitVec 32 := 40#32
  let v54 : BitVec 32 := Scalar.addi c0_i32_29 c40_i32
  let c1_i32_30 : BitVec 32 := 1#32
  ⟨c0_i32_29, v54, c1_i32_30⟩

def k0_chk3 (i : grid0.Coords) (v75 : IVec S16 32) : Prop :=
  (∀ (k0_h2 : k0_cond2 i = 1#1), ∀ a x, ((![v75] : Fin 1 → IVec S16 32) a x).toNat < S5120.size a)
theorem k0_idx3_inb : ∀ (i : grid0.Coords) (v75 : IVec S16 32) (k0_hw3 : k0_chk3 i v75), ∀ (k0_h2 : k0_cond2 i = 1#1), ∀ a x, ((![v75] : Fin 1 → IVec S16 32) a x).toNat < S5120.size a := fun i v75 k0_hw3 k0_h2 => k0_hw3 k0_h2
def k0_off10 (k0_t3 : Fin k0_t3_loop.trips) : Fin 1 → Nat :=
  let c4480_i32_36 : BitVec 32 := 4480#32
  let c0_i32_29 : BitVec 32 := 0#32
  let c1_i32_30 : BitVec 32 := 1#32
  let arg9 : BitVec 32 := Scf.iv c0_i32_29 c1_i32_30 k0_t3
  let c16_i32_35 : BitVec 32 := 16#32
  let v77 : BitVec 32 := Scalar.muli arg9 c16_i32_35
  let v78 : BitVec 32 := Scalar.addi c4480_i32_36 v77
  let v79 : Index := Scalar.indexCast v78
  ![v79.toNat]

def k0_chk4 (i : grid0.Coords) (v56 : IVec S16 32) : Prop :=
  (∀ (k0_h2 : k0_cond2 i = 1#1), ∀ a x, ((![v56] : Fin 1 → IVec S16 32) a x).toNat < S224.size a)
theorem k0_idx4_inb : ∀ (i : grid0.Coords) (v56 : IVec S16 32) (k0_hw4 : k0_chk4 i v56), ∀ (k0_h2 : k0_cond2 i = 1#1), ∀ a x, ((![v56] : Fin 1 → IVec S16 32) a x).toNat < S224.size a := fun i v56 k0_hw4 k0_h2 => k0_hw4 k0_h2

def k0_chk5 (i : grid0.Coords) (v68 : IVec S16 32) : Prop :=
  (∀ (k0_h2 : k0_cond2 i = 1#1), ∀ a x, ((![v68] : Fin 1 → IVec S16 32) a x).toNat < S5120.size a)
theorem k0_idx5_inb : ∀ (i : grid0.Coords) (v68 : IVec S16 32) (k0_hw5 : k0_chk5 i v68), ∀ (k0_h2 : k0_cond2 i = 1#1), ∀ a x, ((![v68] : Fin 1 → IVec S16 32) a x).toNat < S5120.size a := fun i v68 k0_hw5 k0_h2 => k0_hw5 k0_h2
@[reducible] def k0_t4_loop (i : grid0.Coords) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c64_i32_21 : BitVec 32 := 64#32
  let v43 : BitVec 32 := Scalar.addi v29 c64_i32_21
  let v44 : BitVec 32 := Scalar.subi v43 v29
  let c1_i32_23 : BitVec 32 := 1#32
  let v46 : BitVec 32 := Scalar.divsi v44 c1_i32_23
  let v47 : BitVec 32 := Scalar.muli v46 c1_i32_23
  let v48 : BitVec 32 := Scalar.addi v29 v47
  let c1_i32_24 : BitVec 32 := 1#32
  ⟨v29, v48, c1_i32_24⟩
def k0_cond4 (i : grid0.Coords) (k0_t4 : Fin (k0_t4_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c1_i32_24 : BitVec 32 := 1#32
  let arg9 : BitVec 32 := Scf.iv v29 c1_i32_24 k0_t4
  let c1_i32_26 : BitVec 32 := 1#32
  let v51 : BitVec 32 := Scalar.addi arg9 c1_i32_26
  let c512_i32 : BitVec 32 := 512#32
  let v52 : BitVec 1 := Scalar.cmpi .slt v51 c512_i32
  let v53 : BitVec 32 := Scalar.extui v52
  let c0_i32_27 : BitVec 32 := 0#32
  let v54 : BitVec 1 := Scalar.cmpi .ne v53 c0_i32_27
  v54

def k0_off11 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c1_i32_24 : BitVec 32 := 1#32
  let arg9 : BitVec 32 := Scf.iv v29 c1_i32_24 k0_t4
  let c1_i32_43 : BitVec 32 := 1#32
  let v68 : BitVec 32 := Scalar.addi arg9 c1_i32_43
  let c4_i32_44 : BitVec 32 := 4#32
  let v69 : BitVec 32 := Scalar.remsi v68 c4_i32_44
  let c28672_i32_45 : BitVec 32 := 28672#32
  let v70 : BitVec 32 := Scalar.muli v69 c28672_i32_45
  ![v70.toNat]
def k0_off12 (i : grid0.Coords) (k0_t4 : Fin (k0_t4_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c1_i32_24 : BitVec 32 := 1#32
  let arg9 : BitVec 32 := Scf.iv v29 c1_i32_24 k0_t4
  let c1_i32_43 : BitVec 32 := 1#32
  let v68 : BitVec 32 := Scalar.addi arg9 c1_i32_43
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28672_i32 : BitVec 32 := 28672#32
  let v30 : BitVec 32 := Scalar.muli v28 c28672_i32
  ![v68.toNat, v30.toNat]
@[reducible] def k0_t5_loop : Scf.Loop 32 :=
  let c0_i32_49 : BitVec 32 := 0#32
  let c80_i32_50 : BitVec 32 := 80#32
  let v73 : BitVec 32 := Scalar.addi c0_i32_49 c80_i32_50
  let c1_i32_51 : BitVec 32 := 1#32
  ⟨c0_i32_49, v73, c1_i32_51⟩
def k0_off13 (k0_t5 : Fin k0_t5_loop.trips) : Fin 1 → Nat :=
  let c0_i32_49 : BitVec 32 := 0#32
  let c1_i32_51 : BitVec 32 := 1#32
  let arg11 : BitVec 32 := Scf.iv c0_i32_49 c1_i32_51 k0_t5
  let c16_i32 : BitVec 32 := 16#32
  let v75 : BitVec 32 := Scalar.muli arg11 c16_i32
  let v76 : Index := Scalar.indexCast v75
  ![v76.toNat]

def k0_chk6 (i : grid0.Coords) (k0_t4 : Fin (k0_t4_loop i).trips) (v80 : IVec S16 32) : Prop :=
  (∀ (k0_h4 : k0_cond4 i k0_t4 = 1#1), ∀ a x, ((![v80] : Fin 1 → IVec S16 32) a x).toNat < S114688.size a)
theorem k0_idx6_inb : ∀ (i : grid0.Coords) (k0_t4 : Fin (k0_t4_loop i).trips) (v80 : IVec S16 32) (k0_hw6 : k0_chk6 i k0_t4 v80), ∀ (k0_h4 : k0_cond4 i k0_t4 = 1#1), ∀ a x, ((![v80] : Fin 1 → IVec S16 32) a x).toNat < S114688.size a := fun i k0_t4 v80 k0_hw6 k0_h4 => k0_hw6 k0_h4
def k0_off14 (i : grid0.Coords) (k0_t4 : Fin (k0_t4_loop i).trips) (k0_t5 : Fin k0_t5_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c1_i32_24 : BitVec 32 := 1#32
  let arg9 : BitVec 32 := Scf.iv v29 c1_i32_24 k0_t4
  let c1_i32_46 : BitVec 32 := 1#32
  let v71 : BitVec 32 := Scalar.addi arg9 c1_i32_46
  let c4_i32_47 : BitVec 32 := 4#32
  let v72 : BitVec 32 := Scalar.remsi v71 c4_i32_47
  let c1280_i32 : BitVec 32 := 1280#32
  let v82 : BitVec 32 := Scalar.muli v72 c1280_i32
  let c0_i32_49 : BitVec 32 := 0#32
  let c1_i32_51 : BitVec 32 := 1#32
  let arg11 : BitVec 32 := Scf.iv c0_i32_49 c1_i32_51 k0_t5
  let c16_i32_54 : BitVec 32 := 16#32
  let v83 : BitVec 32 := Scalar.muli arg11 c16_i32_54
  let v84 : BitVec 32 := Scalar.addi v82 v83
  let v85 : Index := Scalar.indexCast v84
  ![v85.toNat]
def k0_cond5 (i : grid0.Coords) (k0_t4 : Fin (k0_t4_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c1_i32_24 : BitVec 32 := 1#32
  let arg9 : BitVec 32 := Scf.iv v29 c1_i32_24 k0_t4
  let c1_i32_28 : BitVec 32 := 1#32
  let v55 : BitVec 32 := Scalar.addi arg9 c1_i32_28
  let c512_i32_29 : BitVec 32 := 512#32
  let v56 : BitVec 1 := Scalar.cmpi .eq v55 c512_i32_29
  let v57 : BitVec 32 := Scalar.extui v56
  let c0_i32_30 : BitVec 32 := 0#32
  let v58 : BitVec 1 := Scalar.cmpi .ne v57 c0_i32_30
  v58

def k0_cond6 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c3_i32_43 : BitVec 32 := 3#32
  let v68 : BitVec 1 := Scalar.cmpi .slt v28 c3_i32_43
  let v69 : BitVec 32 := Scalar.extui v68
  let c0_i32_44 : BitVec 32 := 0#32
  let v70 : BitVec 1 := Scalar.cmpi .ne v69 c0_i32_44
  v70

def k0_off15 (i : grid0.Coords) : Fin 2 → Nat :=
  let c511_i32 : BitVec 32 := 511#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28672_i32 : BitVec 32 := 28672#32
  let v30 : BitVec 32 := Scalar.muli v28 c28672_i32
  let c28672_i32_50 : BitVec 32 := 28672#32
  let v86 : BitVec 32 := Scalar.addi v30 c28672_i32_50
  ![511, v86.toNat]
@[reducible] def k0_t6_loop : Scf.Loop 32 :=
  let c0_i32_46 : BitVec 32 := 0#32
  let c40_i32 : BitVec 32 := 40#32
  let v71 : BitVec 32 := Scalar.addi c0_i32_46 c40_i32
  let c1_i32_47 : BitVec 32 := 1#32
  ⟨c0_i32_46, v71, c1_i32_47⟩

def k0_chk7 (i : grid0.Coords) (k0_t4 : Fin (k0_t4_loop i).trips) (v90 : IVec S16 32) : Prop :=
  (∀ (k0_h5 : k0_cond5 i k0_t4 = 1#1), ∀ a x, ((![v90] : Fin 1 → IVec S16 32) a x).toNat < S5120.size a)
theorem k0_idx7_inb : ∀ (i : grid0.Coords) (k0_t4 : Fin (k0_t4_loop i).trips) (v90 : IVec S16 32) (k0_hw7 : k0_chk7 i k0_t4 v90), ∀ (k0_h5 : k0_cond5 i k0_t4 = 1#1), ∀ a x, ((![v90] : Fin 1 → IVec S16 32) a x).toNat < S5120.size a := fun i k0_t4 v90 k0_hw7 k0_h5 => k0_hw7 k0_h5
def k0_off16 (k0_t6 : Fin k0_t6_loop.trips) : Fin 1 → Nat :=
  let c0_i32_46 : BitVec 32 := 0#32
  let c1_i32_47 : BitVec 32 := 1#32
  let arg11 : BitVec 32 := Scf.iv c0_i32_46 c1_i32_47 k0_t6
  let c16_i32_51 : BitVec 32 := 16#32
  let v92 : BitVec 32 := Scalar.muli arg11 c16_i32_51
  let v93 : Index := Scalar.indexCast v92
  ![v93.toNat]

def k0_chk8 (i : grid0.Coords) (k0_t4 : Fin (k0_t4_loop i).trips) (v73 : IVec S16 32) : Prop :=
  (∀ (k0_h5 : k0_cond5 i k0_t4 = 1#1), ∀ a x, ((![v73] : Fin 1 → IVec S16 32) a x).toNat < S224.size a)
theorem k0_idx8_inb : ∀ (i : grid0.Coords) (k0_t4 : Fin (k0_t4_loop i).trips) (v73 : IVec S16 32) (k0_hw8 : k0_chk8 i k0_t4 v73), ∀ (k0_h5 : k0_cond5 i k0_t4 = 1#1), ∀ a x, ((![v73] : Fin 1 → IVec S16 32) a x).toNat < S224.size a := fun i k0_t4 v73 k0_hw8 k0_h5 => k0_hw8 k0_h5

def k0_chk9 (i : grid0.Coords) (k0_t4 : Fin (k0_t4_loop i).trips) (v83 : IVec S16 32) : Prop :=
  (∀ (k0_h5 : k0_cond5 i k0_t4 = 1#1), ∀ a x, ((![v83] : Fin 1 → IVec S16 32) a x).toNat < S5120.size a)
theorem k0_idx9_inb : ∀ (i : grid0.Coords) (k0_t4 : Fin (k0_t4_loop i).trips) (v83 : IVec S16 32) (k0_hw9 : k0_chk9 i k0_t4 v83), ∀ (k0_h5 : k0_cond5 i k0_t4 = 1#1), ∀ a x, ((![v83] : Fin 1 → IVec S16 32) a x).toNat < S5120.size a := fun i k0_t4 v83 k0_hw9 k0_h5 => k0_hw9 k0_h5
@[reducible] def k0_t7_loop : Scf.Loop 32 :=
  let c0_i32_36 : BitVec 32 := 0#32
  let c80_i32_37 : BitVec 32 := 80#32
  let v64 : BitVec 32 := Scalar.addi c0_i32_36 c80_i32_37
  let c1_i32_38 : BitVec 32 := 1#32
  ⟨c0_i32_36, v64, c1_i32_38⟩
def k0_off17 (k0_t7 : Fin k0_t7_loop.trips) : Fin 1 → Nat :=
  let c0_i32_36 : BitVec 32 := 0#32
  let c1_i32_38 : BitVec 32 := 1#32
  let arg11 : BitVec 32 := Scf.iv c0_i32_36 c1_i32_38 k0_t7
  let c16_i32 : BitVec 32 := 16#32
  let v68 : BitVec 32 := Scalar.muli arg11 c16_i32
  let v69 : Index := Scalar.indexCast v68
  ![v69.toNat]
def k0_off18 (i : grid0.Coords) (k0_t4 : Fin (k0_t4_loop i).trips) (k0_t7 : Fin k0_t7_loop.trips) : Fin 1 → Nat :=
  let c0_i32_36 : BitVec 32 := 0#32
  let c1_i32_38 : BitVec 32 := 1#32
  let arg11 : BitVec 32 := Scf.iv c0_i32_36 c1_i32_38 k0_t7
  let c40_i32 : BitVec 32 := 40#32
  let v71 : BitVec 1 := Scalar.cmpi .slt arg11 c40_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c1_i32_24 : BitVec 32 := 1#32
  let arg9 : BitVec 32 := Scf.iv v29 c1_i32_24 k0_t4
  let c1_i32_32 : BitVec 32 := 1#32
  let v60 : BitVec 32 := Scalar.addi arg9 c1_i32_32
  let c4_i32_33 : BitVec 32 := 4#32
  let v61 : BitVec 32 := Scalar.remsi v60 c4_i32_33
  let c3_i32 : BitVec 32 := 3#32
  let v62 : BitVec 32 := Scalar.addi arg9 c3_i32
  let c4_i32_34 : BitVec 32 := 4#32
  let v63 : BitVec 32 := Scalar.remsi v62 c4_i32_34
  let v72 : BitVec 32 := Scalar.select v71 v61 v63
  let c1280_i32 : BitVec 32 := 1280#32
  let v73 : BitVec 32 := Scalar.muli v72 c1280_i32
  let c16_i32_43 : BitVec 32 := 16#32
  let v74 : BitVec 32 := Scalar.muli arg11 c16_i32_43
  let v75 : BitVec 32 := Scalar.addi v73 v74
  let v76 : Index := Scalar.indexCast v75
  ![v76.toNat]

def k0_chk10 (v80 : IVec S16 32) : Prop :=
  (∀ a x, ((![v80] : Fin 1 → IVec S16 32) a x).toNat < S114688.size a)
theorem k0_idx10_inb : ∀ (v80 : IVec S16 32) (k0_hw10 : k0_chk10 v80), ∀ a x, ((![v80] : Fin 1 → IVec S16 32) a x).toNat < S114688.size a := fun v80 k0_hw10 => k0_hw10
def k0_off19 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c1_i32_24 : BitVec 32 := 1#32
  let arg9 : BitVec 32 := Scf.iv v29 c1_i32_24 k0_t4
  let c4_i32_40 : BitVec 32 := 4#32
  let v66 : BitVec 32 := Scalar.remsi arg9 c4_i32_40
  let c28672_i32_41 : BitVec 32 := 28672#32
  let v67 : BitVec 32 := Scalar.muli v66 c28672_i32_41
  ![v67.toNat]
def k0_off20 (i : grid0.Coords) (k0_t4 : Fin (k0_t4_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c1_i32_24 : BitVec 32 := 1#32
  let arg9 : BitVec 32 := Scf.iv v29 c1_i32_24 k0_t4
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28672_i32 : BitVec 32 := 28672#32
  let v30 : BitVec 32 := Scalar.muli v28 c28672_i32
  ![arg9.toNat, v30.toNat]
@[reducible] def k0_t8_loop (i : grid0.Coords) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c64_i32_21 : BitVec 32 := 64#32
  let v43 : BitVec 32 := Scalar.addi v29 c64_i32_21
  let v44 : BitVec 32 := Scalar.subi v43 v29
  let c1_i32_23 : BitVec 32 := 1#32
  let v46 : BitVec 32 := Scalar.divsi v44 c1_i32_23
  let v47 : BitVec 32 := Scalar.muli v46 c1_i32_23
  let v48 : BitVec 32 := Scalar.addi v29 v47
  let v45 : BitVec 32 := Scalar.addi v29 v44
  let c1_i32_25 : BitVec 32 := 1#32
  ⟨v48, v45, c1_i32_25⟩
def k0_cond7 (i : grid0.Coords) (k0_t8 : Fin (k0_t8_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c64_i32_21 : BitVec 32 := 64#32
  let v43 : BitVec 32 := Scalar.addi v29 c64_i32_21
  let v44 : BitVec 32 := Scalar.subi v43 v29
  let c1_i32_23 : BitVec 32 := 1#32
  let v46 : BitVec 32 := Scalar.divsi v44 c1_i32_23
  let v47 : BitVec 32 := Scalar.muli v46 c1_i32_23
  let v48 : BitVec 32 := Scalar.addi v29 v47
  let c1_i32_25 : BitVec 32 := 1#32
  let arg9 : BitVec 32 := Scf.iv v48 c1_i32_25 k0_t8
  let c1_i32_26 : BitVec 32 := 1#32
  let v51 : BitVec 32 := Scalar.addi arg9 c1_i32_26
  let c512_i32 : BitVec 32 := 512#32
  let v52 : BitVec 1 := Scalar.cmpi .slt v51 c512_i32
  let v53 : BitVec 32 := Scalar.extui v52
  let c0_i32_27 : BitVec 32 := 0#32
  let v54 : BitVec 1 := Scalar.cmpi .ne v53 c0_i32_27
  v54

def k0_off21 (i : grid0.Coords) (k0_t8 : Fin (k0_t8_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c64_i32_21 : BitVec 32 := 64#32
  let v43 : BitVec 32 := Scalar.addi v29 c64_i32_21
  let v44 : BitVec 32 := Scalar.subi v43 v29
  let c1_i32_23 : BitVec 32 := 1#32
  let v46 : BitVec 32 := Scalar.divsi v44 c1_i32_23
  let v47 : BitVec 32 := Scalar.muli v46 c1_i32_23
  let v48 : BitVec 32 := Scalar.addi v29 v47
  let c1_i32_25 : BitVec 32 := 1#32
  let arg9 : BitVec 32 := Scf.iv v48 c1_i32_25 k0_t8
  let c1_i32_43 : BitVec 32 := 1#32
  let v68 : BitVec 32 := Scalar.addi arg9 c1_i32_43
  let c4_i32_44 : BitVec 32 := 4#32
  let v69 : BitVec 32 := Scalar.remsi v68 c4_i32_44
  let c28672_i32_45 : BitVec 32 := 28672#32
  let v70 : BitVec 32 := Scalar.muli v69 c28672_i32_45
  ![v70.toNat]
def k0_off22 (i : grid0.Coords) (k0_t8 : Fin (k0_t8_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c64_i32_21 : BitVec 32 := 64#32
  let v43 : BitVec 32 := Scalar.addi v29 c64_i32_21
  let v44 : BitVec 32 := Scalar.subi v43 v29
  let c1_i32_23 : BitVec 32 := 1#32
  let v46 : BitVec 32 := Scalar.divsi v44 c1_i32_23
  let v47 : BitVec 32 := Scalar.muli v46 c1_i32_23
  let v48 : BitVec 32 := Scalar.addi v29 v47
  let c1_i32_25 : BitVec 32 := 1#32
  let arg9 : BitVec 32 := Scf.iv v48 c1_i32_25 k0_t8
  let c1_i32_43 : BitVec 32 := 1#32
  let v68 : BitVec 32 := Scalar.addi arg9 c1_i32_43
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28672_i32 : BitVec 32 := 28672#32
  let v30 : BitVec 32 := Scalar.muli v28 c28672_i32
  ![v68.toNat, v30.toNat]
@[reducible] def k0_t9_loop : Scf.Loop 32 :=
  let c0_i32_49 : BitVec 32 := 0#32
  let c80_i32_50 : BitVec 32 := 80#32
  let v73 : BitVec 32 := Scalar.addi c0_i32_49 c80_i32_50
  let c1_i32_51 : BitVec 32 := 1#32
  ⟨c0_i32_49, v73, c1_i32_51⟩
def k0_off23 (k0_t9 : Fin k0_t9_loop.trips) : Fin 1 → Nat :=
  let c0_i32_49 : BitVec 32 := 0#32
  let c1_i32_51 : BitVec 32 := 1#32
  let arg11 : BitVec 32 := Scf.iv c0_i32_49 c1_i32_51 k0_t9
  let c16_i32 : BitVec 32 := 16#32
  let v75 : BitVec 32 := Scalar.muli arg11 c16_i32
  let v76 : Index := Scalar.indexCast v75
  ![v76.toNat]

def k0_chk11 (i : grid0.Coords) (k0_t8 : Fin (k0_t8_loop i).trips) (v80 : IVec S16 32) : Prop :=
  (∀ (k0_h7 : k0_cond7 i k0_t8 = 1#1), ∀ a x, ((![v80] : Fin 1 → IVec S16 32) a x).toNat < S114688.size a)
theorem k0_idx11_inb : ∀ (i : grid0.Coords) (k0_t8 : Fin (k0_t8_loop i).trips) (v80 : IVec S16 32) (k0_hw11 : k0_chk11 i k0_t8 v80), ∀ (k0_h7 : k0_cond7 i k0_t8 = 1#1), ∀ a x, ((![v80] : Fin 1 → IVec S16 32) a x).toNat < S114688.size a := fun i k0_t8 v80 k0_hw11 k0_h7 => k0_hw11 k0_h7
def k0_off24 (i : grid0.Coords) (k0_t8 : Fin (k0_t8_loop i).trips) (k0_t9 : Fin k0_t9_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c64_i32_21 : BitVec 32 := 64#32
  let v43 : BitVec 32 := Scalar.addi v29 c64_i32_21
  let v44 : BitVec 32 := Scalar.subi v43 v29
  let c1_i32_23 : BitVec 32 := 1#32
  let v46 : BitVec 32 := Scalar.divsi v44 c1_i32_23
  let v47 : BitVec 32 := Scalar.muli v46 c1_i32_23
  let v48 : BitVec 32 := Scalar.addi v29 v47
  let c1_i32_25 : BitVec 32 := 1#32
  let arg9 : BitVec 32 := Scf.iv v48 c1_i32_25 k0_t8
  let c1_i32_46 : BitVec 32 := 1#32
  let v71 : BitVec 32 := Scalar.addi arg9 c1_i32_46
  let c4_i32_47 : BitVec 32 := 4#32
  let v72 : BitVec 32 := Scalar.remsi v71 c4_i32_47
  let c1280_i32 : BitVec 32 := 1280#32
  let v82 : BitVec 32 := Scalar.muli v72 c1280_i32
  let c0_i32_49 : BitVec 32 := 0#32
  let c1_i32_51 : BitVec 32 := 1#32
  let arg11 : BitVec 32 := Scf.iv c0_i32_49 c1_i32_51 k0_t9
  let c16_i32_54 : BitVec 32 := 16#32
  let v83 : BitVec 32 := Scalar.muli arg11 c16_i32_54
  let v84 : BitVec 32 := Scalar.addi v82 v83
  let v85 : Index := Scalar.indexCast v84
  ![v85.toNat]
def k0_cond8 (i : grid0.Coords) (k0_t8 : Fin (k0_t8_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c64_i32_21 : BitVec 32 := 64#32
  let v43 : BitVec 32 := Scalar.addi v29 c64_i32_21
  let v44 : BitVec 32 := Scalar.subi v43 v29
  let c1_i32_23 : BitVec 32 := 1#32
  let v46 : BitVec 32 := Scalar.divsi v44 c1_i32_23
  let v47 : BitVec 32 := Scalar.muli v46 c1_i32_23
  let v48 : BitVec 32 := Scalar.addi v29 v47
  let c1_i32_25 : BitVec 32 := 1#32
  let arg9 : BitVec 32 := Scf.iv v48 c1_i32_25 k0_t8
  let c1_i32_28 : BitVec 32 := 1#32
  let v55 : BitVec 32 := Scalar.addi arg9 c1_i32_28
  let c512_i32_29 : BitVec 32 := 512#32
  let v56 : BitVec 1 := Scalar.cmpi .eq v55 c512_i32_29
  let v57 : BitVec 32 := Scalar.extui v56
  let c0_i32_30 : BitVec 32 := 0#32
  let v58 : BitVec 1 := Scalar.cmpi .ne v57 c0_i32_30
  v58

def k0_cond9 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c3_i32_43 : BitVec 32 := 3#32
  let v68 : BitVec 1 := Scalar.cmpi .slt v28 c3_i32_43
  let v69 : BitVec 32 := Scalar.extui v68
  let c0_i32_44 : BitVec 32 := 0#32
  let v70 : BitVec 1 := Scalar.cmpi .ne v69 c0_i32_44
  v70

def k0_off25 (i : grid0.Coords) : Fin 2 → Nat :=
  let c511_i32 : BitVec 32 := 511#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28672_i32 : BitVec 32 := 28672#32
  let v30 : BitVec 32 := Scalar.muli v28 c28672_i32
  let c28672_i32_50 : BitVec 32 := 28672#32
  let v86 : BitVec 32 := Scalar.addi v30 c28672_i32_50
  ![511, v86.toNat]
@[reducible] def k0_t10_loop : Scf.Loop 32 :=
  let c0_i32_46 : BitVec 32 := 0#32
  let c40_i32 : BitVec 32 := 40#32
  let v71 : BitVec 32 := Scalar.addi c0_i32_46 c40_i32
  let c1_i32_47 : BitVec 32 := 1#32
  ⟨c0_i32_46, v71, c1_i32_47⟩

def k0_chk12 (i : grid0.Coords) (k0_t8 : Fin (k0_t8_loop i).trips) (v90 : IVec S16 32) : Prop :=
  (∀ (k0_h8 : k0_cond8 i k0_t8 = 1#1), ∀ a x, ((![v90] : Fin 1 → IVec S16 32) a x).toNat < S5120.size a)
theorem k0_idx12_inb : ∀ (i : grid0.Coords) (k0_t8 : Fin (k0_t8_loop i).trips) (v90 : IVec S16 32) (k0_hw12 : k0_chk12 i k0_t8 v90), ∀ (k0_h8 : k0_cond8 i k0_t8 = 1#1), ∀ a x, ((![v90] : Fin 1 → IVec S16 32) a x).toNat < S5120.size a := fun i k0_t8 v90 k0_hw12 k0_h8 => k0_hw12 k0_h8
def k0_off26 (k0_t10 : Fin k0_t10_loop.trips) : Fin 1 → Nat :=
  let c0_i32_46 : BitVec 32 := 0#32
  let c1_i32_47 : BitVec 32 := 1#32
  let arg11 : BitVec 32 := Scf.iv c0_i32_46 c1_i32_47 k0_t10
  let c16_i32_51 : BitVec 32 := 16#32
  let v92 : BitVec 32 := Scalar.muli arg11 c16_i32_51
  let v93 : Index := Scalar.indexCast v92
  ![v93.toNat]

def k0_chk13 (i : grid0.Coords) (k0_t8 : Fin (k0_t8_loop i).trips) (v73 : IVec S16 32) : Prop :=
  (∀ (k0_h8 : k0_cond8 i k0_t8 = 1#1), ∀ a x, ((![v73] : Fin 1 → IVec S16 32) a x).toNat < S224.size a)
theorem k0_idx13_inb : ∀ (i : grid0.Coords) (k0_t8 : Fin (k0_t8_loop i).trips) (v73 : IVec S16 32) (k0_hw13 : k0_chk13 i k0_t8 v73), ∀ (k0_h8 : k0_cond8 i k0_t8 = 1#1), ∀ a x, ((![v73] : Fin 1 → IVec S16 32) a x).toNat < S224.size a := fun i k0_t8 v73 k0_hw13 k0_h8 => k0_hw13 k0_h8

def k0_chk14 (i : grid0.Coords) (k0_t8 : Fin (k0_t8_loop i).trips) (v83 : IVec S16 32) : Prop :=
  (∀ (k0_h8 : k0_cond8 i k0_t8 = 1#1), ∀ a x, ((![v83] : Fin 1 → IVec S16 32) a x).toNat < S5120.size a)
theorem k0_idx14_inb : ∀ (i : grid0.Coords) (k0_t8 : Fin (k0_t8_loop i).trips) (v83 : IVec S16 32) (k0_hw14 : k0_chk14 i k0_t8 v83), ∀ (k0_h8 : k0_cond8 i k0_t8 = 1#1), ∀ a x, ((![v83] : Fin 1 → IVec S16 32) a x).toNat < S5120.size a := fun i k0_t8 v83 k0_hw14 k0_h8 => k0_hw14 k0_h8
@[reducible] def k0_t11_loop : Scf.Loop 32 :=
  let c0_i32_36 : BitVec 32 := 0#32
  let c80_i32_37 : BitVec 32 := 80#32
  let v64 : BitVec 32 := Scalar.addi c0_i32_36 c80_i32_37
  let c1_i32_38 : BitVec 32 := 1#32
  ⟨c0_i32_36, v64, c1_i32_38⟩
def k0_off27 (k0_t11 : Fin k0_t11_loop.trips) : Fin 1 → Nat :=
  let c0_i32_36 : BitVec 32 := 0#32
  let c1_i32_38 : BitVec 32 := 1#32
  let arg11 : BitVec 32 := Scf.iv c0_i32_36 c1_i32_38 k0_t11
  let c16_i32 : BitVec 32 := 16#32
  let v68 : BitVec 32 := Scalar.muli arg11 c16_i32
  let v69 : Index := Scalar.indexCast v68
  ![v69.toNat]
def k0_off28 (i : grid0.Coords) (k0_t8 : Fin (k0_t8_loop i).trips) (k0_t11 : Fin k0_t11_loop.trips) : Fin 1 → Nat :=
  let c0_i32_36 : BitVec 32 := 0#32
  let c1_i32_38 : BitVec 32 := 1#32
  let arg11 : BitVec 32 := Scf.iv c0_i32_36 c1_i32_38 k0_t11
  let c40_i32 : BitVec 32 := 40#32
  let v71 : BitVec 1 := Scalar.cmpi .slt arg11 c40_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c64_i32_21 : BitVec 32 := 64#32
  let v43 : BitVec 32 := Scalar.addi v29 c64_i32_21
  let v44 : BitVec 32 := Scalar.subi v43 v29
  let c1_i32_23 : BitVec 32 := 1#32
  let v46 : BitVec 32 := Scalar.divsi v44 c1_i32_23
  let v47 : BitVec 32 := Scalar.muli v46 c1_i32_23
  let v48 : BitVec 32 := Scalar.addi v29 v47
  let c1_i32_25 : BitVec 32 := 1#32
  let arg9 : BitVec 32 := Scf.iv v48 c1_i32_25 k0_t8
  let c1_i32_32 : BitVec 32 := 1#32
  let v60 : BitVec 32 := Scalar.addi arg9 c1_i32_32
  let c4_i32_33 : BitVec 32 := 4#32
  let v61 : BitVec 32 := Scalar.remsi v60 c4_i32_33
  let c3_i32 : BitVec 32 := 3#32
  let v62 : BitVec 32 := Scalar.addi arg9 c3_i32
  let c4_i32_34 : BitVec 32 := 4#32
  let v63 : BitVec 32 := Scalar.remsi v62 c4_i32_34
  let v72 : BitVec 32 := Scalar.select v71 v61 v63
  let c1280_i32 : BitVec 32 := 1280#32
  let v73 : BitVec 32 := Scalar.muli v72 c1280_i32
  let c16_i32_43 : BitVec 32 := 16#32
  let v74 : BitVec 32 := Scalar.muli arg11 c16_i32_43
  let v75 : BitVec 32 := Scalar.addi v73 v74
  let v76 : Index := Scalar.indexCast v75
  ![v76.toNat]

def k0_chk15 (i : grid0.Coords) (k0_t8 : Fin (k0_t8_loop i).trips) (v80 : IVec S16 32) : Prop :=
  (∀ a x, ((![v80] : Fin 1 → IVec S16 32) a x).toNat < S114688.size a)
theorem k0_idx15_inb : ∀ (i : grid0.Coords) (k0_t8 : Fin (k0_t8_loop i).trips) (v80 : IVec S16 32) (k0_hw15 : k0_chk15 i k0_t8 v80), ∀ a x, ((![v80] : Fin 1 → IVec S16 32) a x).toNat < S114688.size a := fun i k0_t8 v80 k0_hw15 => k0_hw15
def k0_off29 (i : grid0.Coords) (k0_t8 : Fin (k0_t8_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c64_i32_21 : BitVec 32 := 64#32
  let v43 : BitVec 32 := Scalar.addi v29 c64_i32_21
  let v44 : BitVec 32 := Scalar.subi v43 v29
  let c1_i32_23 : BitVec 32 := 1#32
  let v46 : BitVec 32 := Scalar.divsi v44 c1_i32_23
  let v47 : BitVec 32 := Scalar.muli v46 c1_i32_23
  let v48 : BitVec 32 := Scalar.addi v29 v47
  let c1_i32_25 : BitVec 32 := 1#32
  let arg9 : BitVec 32 := Scf.iv v48 c1_i32_25 k0_t8
  let c4_i32_40 : BitVec 32 := 4#32
  let v66 : BitVec 32 := Scalar.remsi arg9 c4_i32_40
  let c28672_i32_41 : BitVec 32 := 28672#32
  let v67 : BitVec 32 := Scalar.muli v66 c28672_i32_41
  ![v67.toNat]
def k0_off30 (i : grid0.Coords) (k0_t8 : Fin (k0_t8_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c64_i32 : BitVec 32 := 64#32
  let v29 : BitVec 32 := Scalar.muli v18 c64_i32
  let c64_i32_21 : BitVec 32 := 64#32
  let v43 : BitVec 32 := Scalar.addi v29 c64_i32_21
  let v44 : BitVec 32 := Scalar.subi v43 v29
  let c1_i32_23 : BitVec 32 := 1#32
  let v46 : BitVec 32 := Scalar.divsi v44 c1_i32_23
  let v47 : BitVec 32 := Scalar.muli v46 c1_i32_23
  let v48 : BitVec 32 := Scalar.addi v29 v47
  let c1_i32_25 : BitVec 32 := 1#32
  let arg9 : BitVec 32 := Scf.iv v48 c1_i32_25 k0_t8
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c28672_i32 : BitVec 32 := 28672#32
  let v30 : BitVec 32 := Scalar.muli v28 c28672_i32
  ![arg9.toNat, v30.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S512x512x224 : Shape := ⟨3, ![512, 512, 224]⟩
abbrev S_ : Shape := ⟨0, ![]⟩
abbrev S512x511x224 : Shape := ⟨3, ![512, 511, 224]⟩
abbrev S512x1x224 : Shape := ⟨3, ![512, 1, 224]⟩
abbrev S511x512x224 : Shape := ⟨3, ![511, 512, 224]⟩
abbrev S1x512x224 : Shape := ⟨3, ![1, 512, 224]⟩

abbrev nBuf : Space → Nat
  | .hbm => 61
  | .vmem => 0
  | .smem => 0
  | _ => 0

abbrev bufTy : (tb : Table) → Fin (tcTables nBuf tb) → BufTy
  | .hbm, ⟨0, _⟩ => ⟨S512x512x224, .f32⟩
  | .hbm, ⟨1, _⟩ => ⟨S512x512x224, .i32⟩
  | .hbm, ⟨2, _⟩ => ⟨S_, .i32⟩
  | .hbm, ⟨3, _⟩ => ⟨S512x512x224, .i32⟩
  | .hbm, ⟨4, _⟩ => ⟨S512x512x224, .i1⟩
  | .hbm, ⟨5, _⟩ => ⟨S_, .i32⟩
  | .hbm, ⟨6, _⟩ => ⟨S512x512x224, .i32⟩
  | .hbm, ⟨7, _⟩ => ⟨S512x512x224, .i1⟩
  | .hbm, ⟨8, _⟩ => ⟨S_, .i32⟩
  | .hbm, ⟨9, _⟩ => ⟨S512x512x224, .i32⟩
  | .hbm, ⟨10, _⟩ => ⟨S512x512x224, .i1⟩
  | .hbm, ⟨11, _⟩ => ⟨S_, .i32⟩
  | .hbm, ⟨12, _⟩ => ⟨S512x512x224, .i32⟩
  | .hbm, ⟨13, _⟩ => ⟨S512x512x224, .i1⟩
  | .hbm, ⟨14, _⟩ => ⟨S_, .i32⟩
  | .hbm, ⟨15, _⟩ => ⟨S512x512x224, .i32⟩
  | .hbm, ⟨16, _⟩ => ⟨S512x512x224, .i1⟩
  | .hbm, ⟨17, _⟩ => ⟨S512x512x224, .i1⟩
  | .hbm, ⟨18, _⟩ => ⟨S512x512x224, .i1⟩
  | .hbm, ⟨19, _⟩ => ⟨S512x512x224, .i1⟩
  | .hbm, ⟨20, _⟩ => ⟨S512x512x224, .i1⟩
  | .hbm, ⟨21, _⟩ => ⟨S_, .i32⟩
  | .hbm, ⟨22, _⟩ => ⟨S512x512x224, .i32⟩
  | .hbm, ⟨23, _⟩ => ⟨S512x512x224, .i1⟩
  | .hbm, ⟨24, _⟩ => ⟨S_, .i32⟩
  | .hbm, ⟨25, _⟩ => ⟨S512x512x224, .i32⟩
  | .hbm, ⟨26, _⟩ => ⟨S512x512x224, .i1⟩
  | .hbm, ⟨27, _⟩ => ⟨S_, .i32⟩
  | .hbm, ⟨28, _⟩ => ⟨S512x512x224, .i32⟩
  | .hbm, ⟨29, _⟩ => ⟨S512x512x224, .i1⟩
  | .hbm, ⟨30, _⟩ => ⟨S_, .i32⟩
  | .hbm, ⟨31, _⟩ => ⟨S512x512x224, .i32⟩
  | .hbm, ⟨32, _⟩ => ⟨S512x512x224, .i1⟩
  | .hbm, ⟨33, _⟩ => ⟨S_, .i32⟩
  | .hbm, ⟨34, _⟩ => ⟨S512x512x224, .i32⟩
  | .hbm, ⟨35, _⟩ => ⟨S512x512x224, .i1⟩
  | .hbm, ⟨36, _⟩ => ⟨S512x512x224, .i1⟩
  | .hbm, ⟨37, _⟩ => ⟨S512x512x224, .i1⟩
  | .hbm, ⟨38, _⟩ => ⟨S512x512x224, .i1⟩
  | .hbm, ⟨39, _⟩ => ⟨S512x512x224, .i1⟩
  | .hbm, ⟨40, _⟩ => ⟨S512x512x224, .i1⟩
  | .hbm, ⟨41, _⟩ => ⟨S512x512x224, .i1⟩
  | .hbm, ⟨42, _⟩ => ⟨S_, .f32⟩
  | .hbm, ⟨43, _⟩ => ⟨S512x512x224, .f32⟩
  | .hbm, ⟨44, _⟩ => ⟨S512x511x224, .f32⟩
  | .hbm, ⟨45, _⟩ => ⟨S512x1x224, .f32⟩
  | .hbm, ⟨46, _⟩ => ⟨S512x512x224, .f32⟩
  | .hbm, ⟨47, _⟩ => ⟨S512x512x224, .f32⟩
  | .hbm, ⟨48, _⟩ => ⟨S512x1x224, .f32⟩
  | .hbm, ⟨49, _⟩ => ⟨S512x511x224, .f32⟩
  | .hbm, ⟨50, _⟩ => ⟨S512x512x224, .f32⟩
  | .hbm, ⟨51, _⟩ => ⟨S512x512x224, .f32⟩
  | .hbm, ⟨52, _⟩ => ⟨S511x512x224, .f32⟩
  | .hbm, ⟨53, _⟩ => ⟨S1x512x224, .f32⟩
  | .hbm, ⟨54, _⟩ => ⟨S512x512x224, .f32⟩
  | .hbm, ⟨55, _⟩ => ⟨S512x512x224, .f32⟩
  | .hbm, ⟨56, _⟩ => ⟨S1x512x224, .f32⟩
  | .hbm, ⟨57, _⟩ => ⟨S511x512x224, .f32⟩
  | .hbm, ⟨58, _⟩ => ⟨S512x512x224, .f32⟩
  | .hbm, ⟨59, _⟩ => ⟨S512x512x224, .f32⟩
  | .hbm, ⟨60, _⟩ => ⟨S512x512x224, .f32⟩
  | _, _ => ⟨S512x512x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_4 : Ref sig .tc := ⟨.hbm, 21, rfl⟩
abbrev main_v15 : Ref sig .tc := ⟨.hbm, 22, rfl⟩
abbrev main_v16 : Ref sig .tc := ⟨.hbm, 23, rfl⟩
abbrev main_c_5 : Ref sig .tc := ⟨.hbm, 24, rfl⟩
abbrev main_v17 : Ref sig .tc := ⟨.hbm, 25, rfl⟩
abbrev main_v18 : Ref sig .tc := ⟨.hbm, 26, rfl⟩
abbrev main_c_6 : Ref sig .tc := ⟨.hbm, 27, rfl⟩
abbrev main_v19 : Ref sig .tc := ⟨.hbm, 28, rfl⟩
abbrev main_v20 : Ref sig .tc := ⟨.hbm, 29, rfl⟩
abbrev main_c_7 : Ref sig .tc := ⟨.hbm, 30, rfl⟩
abbrev main_v21 : Ref sig .tc := ⟨.hbm, 31, rfl⟩
abbrev main_v22 : Ref sig .tc := ⟨.hbm, 32, rfl⟩
abbrev main_c_8 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== Proof.Vectors.lean ====
/-
  Vectors by natural-number position. The kernel's scratch buffers are one-dimensional, and its arithmetic on positions
  is arithmetic of natural numbers: `at1 g n` is the entry of `g` at position `n`. The lemmas here say what a
  sixteen-lane load reads, what a sixteen-lane store leaves, and what a gather and a scatter by an index vector do, all
  in those terms.
-/
module

public import Idealize.ShloMosaic.Lib.SparseCore.Ops
public import Idealize.ShloMosaic.Lib.VecWindow
public import Idealize.ShloMosaic.Lib.Pointwise.Index

@[expose] public section

noncomputable section

namespace Cert.Proof

open Idealize.ShloMosaic

/-- The sixteen-lane shape. -/
abbrev Lanes : Shape := ⟨1, ![16]⟩

/-- The entry of a vector of `N` entries at position `n` (positions past the end wrap round). -/
def at1 {α : Type} {N : ℕ} [NeZero N] (g : (⟨1, ![N]⟩ : Shape).Idx → α) (n : ℕ) : α := g (ix1 (Fin.ofNat N n))

theorem at1_val {α : Type} {N : ℕ} [NeZero N] (g : (⟨1, ![N]⟩ : Shape).Idx → α) (y : (⟨1, ![N]⟩ : Shape).Idx) :
    at1 g (y 0).val = g y := by
  unfold at1
  refine congrArg g ?_
  funext a
  match a with
  | ⟨0, _⟩ => exact Fin.ext (Nat.mod_eq_of_lt (y 0).isLt)

theorem at1_of_eq {α : Type} {N : ℕ} [NeZero N] (g : (⟨1, ![N]⟩ : Shape).Idx → α) (y : (⟨1, ![N]⟩ : Shape).Idx) {n : ℕ}
    (h : (y 0).val = n) : g y = at1 g n := by
  subst h; exact (at1_val g y).symm

/-- Two vectors that agree at every position are equal. -/
theorem at1_ext {α : Type} {N : ℕ} [NeZero N] {g g' : (⟨1, ![N]⟩ : Shape).Idx → α} (h : ∀ n < N, at1 g n = at1 g' n) : g = g' := by
  funext y
  rw [← at1_val g y, ← at1_val g' y]
  exact h _ (y 0).isLt

theorem ix1_ofNat_val {N : ℕ} [NeZero N] {n : ℕ} (h : n < N) : ((ix1 (Fin.ofNat N n) : (⟨1, ![N]⟩ : Shape).Idx) 0).val = n :=
  Nat.mod_eq_of_lt h

section Rects

variable {sig : RefSig} {κ : Kind} {sp : Space} {e : EltTy} {Val : EltTy → Type} {N : ℕ} [NeZero N]

/-- A load of `w` consecutive entries reads, at its entry `x`, the buffer's entry that far past the load's offset. -/
theorem readAt_at1 (v : View sig κ sp (⟨1, ![N]⟩ : Shape) e) (f : v.ty.Contents Val) {w : ℕ} {off : Fin 1 → ℕ}
    (inb : ∀ a : Fin 1, off a + (⟨1, ![w]⟩ : Shape).size a ≤ (⟨1, ![N]⟩ : Shape).size a) (x : (⟨1, ![w]⟩ : Shape).Idx) :
    v.readAt Val (Rect.unit (s := ⟨1, ![N]⟩) off (⟨1, ![w]⟩ : Shape).size inb).toLoadRect f x
      = at1 (v.read Val f) (off 0 + (x 0).val) := by
  rw [View.readAt_unit v f inb rfl inb]
  refine at1_of_eq (v.read Val f) _ ?_
  show off 0 + 1 * (x 0).val = _
  rw [Nat.one_mul]

/-- A store of `w` consecutive entries: its own entries inside, the old ones outside. -/
theorem write_at1 (m : Memref sig κ sp (⟨1, ![N]⟩ : Shape) e) (f : m.view.ty.Contents Val) {w : ℕ} [NeZero w] {off : Fin 1 → ℕ}
    (inb : ∀ a : Fin 1, off a + (⟨1, ![w]⟩ : Shape).size a ≤ (⟨1, ![N]⟩ : Shape).size a)
    (g : (⟨1, ![w]⟩ : Shape).Idx → Val e) (n : ℕ) (hn : n < N) :
    at1 (m.view.read Val ((m.access (Rect.unit (s := ⟨1, ![N]⟩) off (⟨1, ![w]⟩ : Shape).size inb)).write Val f g Finset.univ)) n
      = if off 0 ≤ n ∧ n < off 0 + w then at1 g (n - off 0) else at1 (m.view.read Val f) n := by
  have h := View.read_writes_cons_unit (Val := Val) m.view f inb g [] (ix1 (Fin.ofNat N n)) rfl
  rw [View.writes_singleton] at h
  refine h.trans ?_
  have hv : ((ix1 (Fin.ofNat N n) : (⟨1, ![N]⟩ : Shape).Idx) 0).val = n := ix1_ofNat_val hn
  by_cases hc : off 0 ≤ n ∧ n < off 0 + w
  · rw [if_pos hc, dif_pos (by
      intro a
      match a with
      | ⟨0, _⟩ => exact ⟨hv.symm ▸ hc.1, hv.symm ▸ hc.2⟩)]
    refine at1_of_eq g _ ?_
    show ((ix1 (Fin.ofNat N n) : (⟨1, ![N]⟩ : Shape).Idx) 0).val - off 0 = _
    rw [hv]
  · rw [if_neg hc, dif_neg (by
      intro hall
      have := hall 0
      rw [hv] at this
      exact hc this)]
    rfl

/-- The whole rectangle's access reads what the memref reads. -/
theorem read_whole_access {s : Shape} (m : Memref sig κ sp s e) (f : m.view.ty.Contents Val) :
    (m.access (.whole s)).read Val f = m.view.read Val f := by
  funext y
  refine congrArg (m.view.read Val f) (funext fun a => Fin.ext ?_)
  show 0 + 1 * (y a).val = (y a).val
  omega

theorem read_whole_write {s : Shape} (m : Memref sig κ sp s e) (f : m.view.ty.Contents Val) (w : s.Idx → Val e) :
    m.view.read Val ((m.access (.whole s)).write Val f w Finset.univ) = w := by
  rw [← read_whole_access m]
  exact View.read_write_univ _ _

end Rects

section Scatter

variable {F : FTy → Type} [FloatOps F] {e : EltTy} {N : ℕ} [NeZero N]

/-- One lane of a scatter. -/
private def laneStep (idx : Fin 16 → ℕ) (set : Fin 16 → Prop) [DecidablePred set] (v : Fin 16 → Elt F e)
    (g : (⟨1, ![N]⟩ : Shape).Idx → Elt F e) (k : Fin 16) : (⟨1, ![N]⟩ : Shape).Idx → Elt F e :=
  if set k then fun j => if (j 0).val = idx k then v k else g j else g

private theorem foldl_miss (idx : Fin 16 → ℕ) (set : Fin 16 → Prop) [DecidablePred set] (v : Fin 16 → Elt F e)
    (y : (⟨1, ![N]⟩ : Shape).Idx) (L : List (Fin 16)) (h : ∀ k ∈ L, set k → (y 0).val ≠ idx k) :
    ∀ g : (⟨1, ![N]⟩ : Shape).Idx → Elt F e, L.foldl (laneStep idx set v) g y = g y := by
  induction L with
  | nil => intro g; rfl
  | cons a L ih =>
    intro g
    rw [List.foldl_cons, ih (fun k hk => h k (List.mem_cons_of_mem _ hk))]
    unfold laneStep
    by_cases ha : set a
    · rw [if_pos ha, if_neg (h a List.mem_cons_self ha)]
    · rw [if_neg ha]

private theorem foldl_hit (idx : Fin 16 → ℕ) (set : Fin 16 → Prop) [DecidablePred set] (v : Fin 16 → Elt F e)
    (y : (⟨1, ![N]⟩ : Shape).Idx) (k : Fin 16) (hs : set k) (hi : (y 0).val = idx k)
    (hu : ∀ k', set k' → (y 0).val = idx k' → k' = k) (L : List (Fin 16)) (hk : k ∈ L) :
    ∀ g : (⟨1, ![N]⟩ : Shape).Idx → Elt F e, L.foldl (laneStep idx set v) g y = v k := by
  induction L with
  | nil => exact absurd hk (by simp)
  | cons a L ih =>
    intro g
    rw [List.foldl_cons]
    by_cases hL : k ∈ L
    · exact ih hL _
    · have hak : a = k := by
        rcases List.mem_cons.1 hk with h | h
        · exact h.symm
        · exact absurd h hL
      rw [foldl_miss idx set v y L (fun k' hk' hs' he => hL (hu k' hs' he ▸ hk'))]
      subst hak
      unfold laneStep
      rw [if_pos hs, if_pos hi]

private theorem storeIdx_fold (f : Vec F (⟨1, ![N]⟩ : Shape) e) (w : IVec Lanes 32) (v : Vec F Lanes e) (mask : IVec Lanes 1)
    (h : ∀ a x, ((![w] : Fin 1 → IVec Lanes 32) a x).toNat < (⟨1, ![N]⟩ : Shape).size a) :
    storeIdx (s := ⟨1, ![N]⟩) f ![w] v mask false h
      = (List.finRange 16).foldl (laneStep (fun k => (w (ix1 k)).toNat) (fun k => mask (ix1 k) = 1) (fun k => v (ix1 k))) f := by
  unfold storeIdx
  have hl : ∀ k : Fin 16, (Shape.ofLane (d := ![16]) k) = ix1 k := by
    intro k; funext a; match a with | ⟨0, _⟩ => rfl
  refine congrArg (fun st => (List.finRange 16).foldl st f) ?_
  funext g k j
  simp only [Bool.false_eq_true, if_false]
  unfold laneStep
  rw [hl k]
  have hq : (∀ a, (j a).val = (idxAt (s := ⟨1, ![N]⟩) ![w] h (ix1 k) a).val) ↔ (j 0).val = (w (ix1 k)).toNat := by
    constructor
    · intro hh; exact hh 0
    · intro hh a; match a with | ⟨0, _⟩ => exact hh
  by_cases hm : mask (ix1 k) = 1
  · rw [if_pos hm, if_pos hm]
    exact if_congr hq rfl rfl
  · rw [if_neg hm, if_neg hm]

/-- A position no set lane names keeps its entry. -/
theorem storeIdx_miss (f : Vec F (⟨1, ![N]⟩ : Shape) e) (w : IVec Lanes 32) (v : Vec F Lanes e) (mask : IVec Lanes 1)
    (h : ∀ a x, ((![w] : Fin 1 → IVec Lanes 32) a x).toNat < (⟨1, ![N]⟩ : Shape).size a) (n : ℕ) (hn : n < N)
    (hm : ∀ l < 16, at1 mask l = 1 → (at1 w l).toNat ≠ n) :
    at1 (storeIdx (s := ⟨1, ![N]⟩) f ![w] v mask false h) n = at1 f n := by
  rw [storeIdx_fold]
  refine foldl_miss _ _ _ _ _ (fun k _ hs he => ?_) f
  rw [ix1_ofNat_val hn] at he
  have hk := at1_val mask (ix1 k)
  have hk' := at1_val w (ix1 k)
  exact hm k.val k.isLt (hk.trans hs) ((congrArg BitVec.toNat hk').trans he.symm)

/-- The position the only set lane `l` names holds that lane's value. -/
theorem storeIdx_hit (f : Vec F (⟨1, ![N]⟩ : Shape) e) (w : IVec Lanes 32) (v : Vec F Lanes e) (mask : IVec Lanes 1)
    (h : ∀ a x, ((![w] : Fin 1 → IVec Lanes 32) a x).toNat < (⟨1, ![N]⟩ : Shape).size a) (n : ℕ) (hn : n < N)
    (l : ℕ) (hl : l < 16) (hs : at1 mask l = 1) (hi : (at1 w l).toNat = n)
    (hu : ∀ l' < 16, at1 mask l' = 1 → (at1 w l').toNat = n → l' = l) :
    at1 (storeIdx (s := ⟨1, ![N]⟩) f ![w] v mask false h) n = at1 v l := by
  rw [storeIdx_fold]
  have e1 : ∀ {α : Type} (g : Lanes.Idx → α) (k : Fin 16), g (ix1 k) = at1 g k.val := fun g k => (at1_val g (ix1 k)).symm
  refine (foldl_hit _ _ _ _ ⟨l, hl⟩ ?_ ?_ ?_ _ (List.mem_finRange _) f).trans (e1 v ⟨l, hl⟩)
  · exact (e1 mask _).trans hs
  · rw [ix1_ofNat_val hn, e1 w]; exact hi.symm
  · intro k' hk' he
    rw [ix1_ofNat_val hn, e1 w] at he
    rw [e1 mask] at hk'
    exact Fin.ext (hu k'.val k'.isLt hk' he.symm)

omit [FloatOps F] in
/-- A gather's lane `l` is the entry its index names. -/
theorem loadIdx_at1 (f : Vec F (⟨1, ![N]⟩ : Shape) e) (w : IVec Lanes 32)
    (h : ∀ a x, ((![w] : Fin 1 → IVec Lanes 32) a x).toNat < (⟨1, ![N]⟩ : Shape).size a) (l : ℕ) :
    at1 (loadIdx (s := ⟨1, ![N]⟩) f ![w] h : Vec F Lanes e) l = at1 f (at1 w l).toNat := by
  unfold loadIdx
  exact at1_of_eq f _ rfl

end Scatter

end Cert.Proof
-- ==== Proof.Steps.lean ====
/-
  One trip of each of the kernel's inner loops, as a program over any three or four scratch buffers, and what it does to
  them: the gather of sixteen marked entries out of a row (`gatherTrip`), the same sixteen entries moved along by one
  pixel (`moveTrip`), the five entries that come from a neighbouring strip (`edgeStep`), and the scatter of sixteen
  saved entries into a row (`scatterTrip`). Positions are natural numbers (`at1`).
-/
module

public import proofs.«01_k».proof.Proof.Vectors
public import Idealize.ShloMosaic.Lib.Scf
public import Idealize.ShloMosaic.Lib.Tactic

@[expose] public section

noncomputable section

namespace Cert.Proof

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}

local notation "𝕄" => MT nD τ sig Ix (Elt F) Name U Lvl

/-! ## The programs -/

section Programs

variable (c : Thread nD τ)
variable (m5 : Memref sig c.2.kind .vmem (⟨1, ![114688]⟩ : Shape) .f32) (m6 : Memref sig c.2.kind .vmem (⟨1, ![5120]⟩ : Shape) .f32)
variable (m7 : Memref sig c.2.kind .vmem (⟨1, ![1312]⟩ : Shape) .i32) (m8 : Memref sig c.2.kind .vmem (⟨1, ![224]⟩ : Shape) .f32)

/-- The rectangle of sixteen consecutive entries from an offset. -/
abbrev lanesAt (N : ℕ) (off : Fin 1 → ℕ) (inb : ∀ a : Fin 1, off a + Lanes.size a ≤ (⟨1, ![N]⟩ : Shape).size a) : Rect (⟨1, ![N]⟩ : Shape) :=
  Rect.unit (s := ⟨1, ![N]⟩) off Lanes.size inb

/-- Sixteen entries of the row buffer, at the positions the table names, into consecutive places of the side buffer. -/
def gatherTrip {off7 off6 : Fin 1 → ℕ} (inb7 : ∀ a : Fin 1, off7 a + Lanes.size a ≤ (⟨1, ![1312]⟩ : Shape).size a)
    (inb6 : ∀ a : Fin 1, off6 a + Lanes.size a ≤ (⟨1, ![5120]⟩ : Shape).size a)
    (pay : Vec F Lanes .i32 → IVec Lanes 32) (chk : IVec Lanes 32 → Prop) (dec : ∀ w, Decidable (chk w))
    (hidx : ∀ w, chk w → ∀ a x, ((![w] : Fin 1 → IVec Lanes 32) a x).toNat < (⟨1, ![114688]⟩ : Shape).size a)
    (h7 : m7.view.LoadsAt (lanesAt 1312 off7 inb7).toLoadRect) (h5 : m5.view.Loads)
    (h6 : m6.view.LoadsAt (lanesAt 5120 off6 inb6).toLoadRect) (h6s : (m6.access (lanesAt 5120 off6 inb6)).Stores Finset.univ) :
    Prog (TpuEff nD τ sig (Elt F) Λ c.2) (BitVec 32) := do
  let v : Vec F Lanes .i32 ← Prog.lift (.load m7 (lanesAt 1312 off7 inb7).toLoadRect h7)
  have w : IVec Lanes 32 := pay v
  have hw : chk w := (← Prog.lift (TpuEff.assume (chk w) (dec w))).down
  let g : Vec F Lanes .f32 ← SparseCore.vectorLoadIdx m5 ![w] (hidx w hw) h5
  let _ : Vec F Lanes .f32 ← Prog.lift (.load m6 (lanesAt 5120 off6 inb6).toLoadRect h6)
  Prog.lift (.store m6 (lanesAt 5120 off6 inb6) g Finset.univ h6s (.inl rfl))
  pure 0#32

/-- Sixteen entries of the side buffer, at the positions `w`, into consecutive places of the same buffer. -/
def moveTrip {off6 : Fin 1 → ℕ} (inb6 : ∀ a : Fin 1, off6 a + Lanes.size a ≤ (⟨1, ![5120]⟩ : Shape).size a)
    (w : IVec Lanes 32) (chk : IVec Lanes 32 → Prop) (dec : ∀ w, Decidable (chk w))
    (hidx : ∀ w, chk w → ∀ a x, ((![w] : Fin 1 → IVec Lanes 32) a x).toNat < (⟨1, ![5120]⟩ : Shape).size a)
    (h6l : m6.view.Loads)
    (h6 : m6.view.LoadsAt (lanesAt 5120 off6 inb6).toLoadRect) (h6s : (m6.access (lanesAt 5120 off6 inb6)).Stores Finset.univ) :
    Prog (TpuEff nD τ sig (Elt F) Λ c.2) (BitVec 32) := do
  have hw : chk w := (← Prog.lift (TpuEff.assume (chk w) (dec w))).down
  let g : Vec F Lanes .f32 ← SparseCore.vectorLoadIdx m6 ![w] (hidx w hw) h6l
  let _ : Vec F Lanes .f32 ← Prog.lift (.load m6 (lanesAt 5120 off6 inb6).toLoadRect h6)
  Prog.lift (.store m6 (lanesAt 5120 off6 inb6) g Finset.univ h6s (.inl rfl))
  pure 0#32

/-- The entries of the neighbour's column, at the channels the table names, changed by `sel` and scattered to the
    positions `w` of the side buffer under a mask. -/
def edgeStep {off7 : Fin 1 → ℕ} (inb7 : ∀ a : Fin 1, off7 a + Lanes.size a ≤ (⟨1, ![1312]⟩ : Shape).size a)
    (chk : IVec Lanes 32 → Prop) (dec : ∀ w, Decidable (chk w))
    (hidx : ∀ w, chk w → ∀ a x, ((![w] : Fin 1 → IVec Lanes 32) a x).toNat < (⟨1, ![224]⟩ : Shape).size a)
    (w : IVec Lanes 32) (chk' : IVec Lanes 32 → Prop) (dec' : ∀ w, Decidable (chk' w))
    (hidx' : ∀ w, chk' w → ∀ a x, ((![w] : Fin 1 → IVec Lanes 32) a x).toNat < (⟨1, ![5120]⟩ : Shape).size a)
    (sel : Vec F Lanes .f32 → Vec F Lanes .f32) (mask : IVec Lanes 1)
    (h7 : m7.view.LoadsAt (lanesAt 1312 off7 inb7).toLoadRect) (h8 : m8.view.Loads)
    (h6s : (m6.access (.whole _)).Stores Finset.univ) :
    Prog (TpuEff nD τ sig (Elt F) Λ c.2) PUnit := do
  let v : Vec F Lanes .i32 ← Prog.lift (.load m7 (lanesAt 1312 off7 inb7).toLoadRect h7)
  have hw : chk v := (← Prog.lift (TpuEff.assume (chk v) (dec v))).down
  let g : Vec F Lanes .f32 ← SparseCore.vectorLoadIdx m8 ![v] (hidx v hw) h8
  have hw' : chk' w := (← Prog.lift (TpuEff.assume (chk' w) (dec' w))).down
  SparseCore.vectorStoreIdx m6 ![w] (sel g) mask false (hidx' w hw') h6s
  pure ⟨⟩

/-- Sixteen consecutive entries of the side buffer scattered into the row buffer, at the positions the table names. -/
def scatterTrip {off7 off6 : Fin 1 → ℕ} (inb7 : ∀ a : Fin 1, off7 a + Lanes.size a ≤ (⟨1, ![1312]⟩ : Shape).size a)
    (inb6 : ∀ a : Fin 1, off6 a + Lanes.size a ≤ (⟨1, ![5120]⟩ : Shape).size a)
    (pay : Vec F Lanes .i32 → IVec Lanes 32) (chk : IVec Lanes 32 → Prop) (dec : ∀ w, Decidable (chk w))
    (hidx : ∀ w, chk w → ∀ a x, ((![w] : Fin 1 → IVec Lanes 32) a x).toNat < (⟨1, ![114688]⟩ : Shape).size a)
    (h7 : m7.view.LoadsAt (lanesAt 1312 off7 inb7).toLoadRect)
    (h6 : m6.view.LoadsAt (lanesAt 5120 off6 inb6).toLoadRect) (h5s : (m5.access (.whole _)).Stores Finset.univ) :
    Prog (TpuEff nD τ sig (Elt F) Λ c.2) (BitVec 32) := do
  let v : Vec F Lanes .i32 ← Prog.lift (.load m7 (lanesAt 1312 off7 inb7).toLoadRect h7)
  let g : Vec F Lanes .f32 ← Prog.lift (.load m6 (lanesAt 5120 off6 inb6).toLoadRect h6)
  have w : IVec Lanes 32 := pay v
  have hw : chk w := (← Prog.lift (TpuEff.assume (chk w) (dec w))).down
  SparseCore.vectorStoreIdx m5 ![w] g (fun _ => 1#1) false (hidx w hw) h5s
  pure 0#32

end Programs

/-! ## What they do -/

section Rules

variable {defs : Defs nD τ sig (Elt F) Λ} (𝒱 : Variants) (c : Thread nD τ) (bd : Option 𝒱.V) (E : Set Name)
variable {m5 : Memref sig c.2.kind .vmem (⟨1, ![114688]⟩ : Shape) .f32} {m6 : Memref sig c.2.kind .vmem (⟨1, ![5120]⟩ : Shape) .f32}
variable {m7 : Memref sig c.2.kind .vmem (⟨1, ![1312]⟩ : Shape) .i32} {m8 : Memref sig c.2.kind .vmem (⟨1, ![224]⟩ : Shape) .f32}

/-- What a memref's buffer holds at a position. -/
abbrev rd {sp : Space} {e : EltTy} {N : ℕ} [NeZero N] {κ : Kind} (m : Memref sig κ sp (⟨1, ![N]⟩ : Shape) e) (f : m.view.ty.Contents (Elt F)) (n : ℕ) : Elt F e :=
  at1 (m.view.read (Elt F) f) n

theorem set_access_le {sp : Space} {s : Shape} {e : EltTy} {κ : Kind} (m : Memref sig κ sp s e) (r : Rect s) : (m.access r).set ⊆ m.view.set :=
  View.set_slice_subset m.view r

theorem set_whole_access {sp : Space} {s : Shape} {e : EltTy} {κ : Kind} (m : Memref sig κ sp s e) : (m.access (.whole s)).set = m.view.set := by
  show (m.view.slice (.whole s)).set = _
  rw [View.set_slice, Rect.set_whole]; rfl

theorem lanes_lt {N : ℕ} {w : IVec Lanes 32} (h : ∀ l < 16, (at1 w l).toNat < N) :
    ∀ a x, ((![w] : Fin 1 → IVec Lanes 32) a x).toNat < (⟨1, ![N]⟩ : Shape).size a := by
  intro a x
  match a with
  | ⟨0, _⟩ =>
    show (w x).toNat < N
    rw [← at1_val w x]
    exact h _ (x 0).isLt

theorem ret_tail {p : Proc τ} {α β : Type} (x : β) (y : α) :
    (((Prog.ret x : Prog (TpuEff nD τ sig (Elt F) Λ p) β).bind fun _ => Pure.pure y) : Prog (TpuEff nD τ sig (Elt F) Λ p) α) = .ret y := rfl

theorem ret_pure {p : Proc τ} {α : Type} (y : α) : (pure y : Prog (TpuEff nD τ sig (Elt F) Λ p) α) = .ret y := rfl

theorem wp_gatherTrip {off7 off6 : Fin 1 → ℕ} {inb7 : ∀ a : Fin 1, off7 a + Lanes.size a ≤ (⟨1, ![1312]⟩ : Shape).size a}
    {inb6 : ∀ a : Fin 1, off6 a + Lanes.size a ≤ (⟨1, ![5120]⟩ : Shape).size a}
    {pay : Vec F Lanes .i32 → IVec Lanes 32} {chk : IVec Lanes 32 → Prop} {dec : ∀ w, Decidable (chk w)}
    {hidx : ∀ w, chk w → ∀ a x, ((![w] : Fin 1 → IVec Lanes 32) a x).toNat < (⟨1, ![114688]⟩ : Shape).size a}
    {h7 : m7.view.LoadsAt (lanesAt 1312 off7 inb7).toLoadRect} {h5 : m5.view.Loads}
    {h6 : m6.view.LoadsAt (lanesAt 5120 off6 inb6).toLoadRect} {h6s : (m6.access (lanesAt 5120 off6 inb6)).Stores Finset.univ}
    (T : ℕ → ℕ) (sl t : ℕ) (hsl : sl < 4) (ht : t < 80) (hT : ∀ k < 1280, T k < 28672)
    (e7 : off7 = ![16 * t]) (e6 : off6 = ![1280 * sl + 16 * t])
    (hpay : ∀ (v : Vec F Lanes .i32) (l : ℕ), l < 16 → (at1 (α := BitVec 32) v l).toNat < 28672 → (at1 (pay v) l).toNat = 28672 * sl + (at1 (α := BitVec 32) v l).toNat)
    (hchk : ∀ w : IVec Lanes 32, (∀ l < 16, (at1 w l).toNat < 114688) → chk w)
    {fI : m7.view.ty.Contents (Elt F)} {fB : m5.view.ty.Contents (Elt F)} {fS : m6.view.ty.Contents (Elt F)}
    (hI : ∀ k < 1280, BitVec.toNat (rd m7 fI k) = T k) :
    iprop((m7.view.loc c ↦[m7.view.set]{fullShare} fI) ∗ (m5.view.loc c ↦[m5.view.set]{fullShare} fB) ∗ (m6.view.loc c ↦[m6.view.set]{fullShare} fS))
      ⊢ (wp frame (wpE defs 𝒱 c bd) E (gatherTrip c m5 m6 m7 inb7 inb6 pay chk dec hidx h7 h5 h6 h6s) fun _ =>
          iprop((m7.view.loc c ↦[m7.view.set]{fullShare} fI) ∗ (m5.view.loc c ↦[m5.view.set]{fullShare} fB) ∗
            ∃ fS' : m6.view.ty.Contents (Elt F), ⌜∀ n < 5120, rd m6 fS' n
                = if 1280 * sl + 16 * t ≤ n ∧ n < 1280 * sl + 16 * t + 16 then rd m5 fB (28672 * sl + T (n - 1280 * sl)) else rd m6 fS n⌝
              ∗ (m6.view.loc c ↦[m6.view.set]{fullShare} fS'))
          : sProp 𝕄) := by
  subst e7; subst e6
  unfold gatherTrip
  iintro ⟨H7, H5, H6⟩
  have hv : ∀ l < 16, at1 (m7.view.readAt (Elt F) (lanesAt 1312 ![16 * t] inb7).toLoadRect fI) l = rd m7 fI (16 * t + l) := by
    intro l hl
    unfold at1
    rw [readAt_at1 m7.view fI inb7, ix1_ofNat_val hl]
    rfl
  have hw : ∀ l < 16, (at1 (pay (m7.view.readAt (Elt F) (lanesAt 1312 ![16 * t] inb7).toLoadRect fI)) l).toNat = 28672 * sl + T (16 * t + l) := by
    intro l hl
    have h0 : BitVec.toNat (at1 (m7.view.readAt (Elt F) (lanesAt 1312 ![16 * t] inb7).toLoadRect fI) l) = T (16 * t + l) := by
      rw [hv l hl]; exact hI _ (by omega)
    rw [hpay _ l hl (h0 ▸ hT _ (by omega)), h0]
  have hc : chk (pay (m7.view.readAt (Elt F) (lanesAt 1312 ![16 * t] inb7).toLoadRect fI)) :=
    hchk _ fun l hl => by rw [hw l hl]; have := hT (16 * t + l) (by omega); omega
  iapply (wp_load_rect 𝒱 c bd E (m := m7) (r := lanesAt 1312 ![16 * t] inb7) (S := m7.view.set) (f := fI) (set_access_le m7 (lanesAt 1312 ![16 * t] inb7))) $$ H7
  iintro H7
  iapply (wp_assume 𝒱 c bd E hc)
  iapply (SparseCore.wp_vectorLoadIdx 𝒱 c bd E (base := m5) (h := hidx _ hc) (hl := h5) (S := m5.view.set) (f := fB) (set_access_le m5 _)) $$ H5
  iintro H5
  iapply (wp_load_rect 𝒱 c bd E (m := m6) (r := lanesAt 5120 ![1280 * sl + 16 * t] inb6) (S := m6.view.set) (f := fS) (set_access_le m6 (lanesAt 5120 ![1280 * sl + 16 * t] inb6))) $$ H6
  iintro H6
  iapply (wp_store 𝒱 c bd E (m := m6) (r := lanesAt 5120 ![1280 * sl + 16 * t] inb6) (S := m6.view.set) (f := fS) (set_access_le m6 _)) $$ H6
  iintro H6
  rw [ret_tail, wp_ret]
  imodintro
  isplitl [H7]; · iexact H7
  isplitl [H5]; · iexact H5
  iexists _
  isplitr
  · ipureintro
    intro n hn
    refine (write_at1 m6 fS inb6 (loadIdx ((m5.access (.whole _)).read (Elt F) fB) ![pay (m7.view.readAt (Elt F) (lanesAt 1312 ![16 * t] inb7).toLoadRect fI)] (hidx _ hc)) n hn).trans ?_
    show (if 1280 * sl + 16 * t ≤ n ∧ n < 1280 * sl + 16 * t + 16 then _ else _) = _
    by_cases hb : 1280 * sl + 16 * t ≤ n ∧ n < 1280 * sl + 16 * t + 16
    · rw [if_pos hb, if_pos hb]
      refine (loadIdx_at1 _ _ _ _).trans ?_
      rw [read_whole_access, hw _ (by show n - (1280 * sl + 16 * t) < 16; omega)]
      show rd m5 fB _ = rd m5 fB _
      congr 2
      have : 16 * t + (n - (1280 * sl + 16 * t)) = n - 1280 * sl := by omega
      exact congrArg T this
    · rw [if_neg hb, if_neg hb]
  · iexact H6

theorem wp_moveTrip {off6 : Fin 1 → ℕ} {inb6 : ∀ a : Fin 1, off6 a + Lanes.size a ≤ (⟨1, ![5120]⟩ : Shape).size a}
    {w : IVec Lanes 32} {chk : IVec Lanes 32 → Prop} {dec : ∀ w, Decidable (chk w)}
    {hidx : ∀ w, chk w → ∀ a x, ((![w] : Fin 1 → IVec Lanes 32) a x).toNat < (⟨1, ![5120]⟩ : Shape).size a}
    {h6l : m6.view.Loads}
    {h6 : m6.view.LoadsAt (lanesAt 5120 off6 inb6).toLoadRect} {h6s : (m6.access (lanesAt 5120 off6 inb6)).Stores Finset.univ}
    (src dst : ℕ) (hsrc : src + 16 ≤ 5120) (e6 : off6 = ![dst])
    (hw : ∀ l < 16, (at1 w l).toNat = src + l)
    (hchk : ∀ w : IVec Lanes 32, (∀ l < 16, (at1 w l).toNat < 5120) → chk w)
    {fS : m6.view.ty.Contents (Elt F)} :
    (m6.view.loc c ↦[m6.view.set]{fullShare} fS)
      ⊢ (wp frame (wpE defs 𝒱 c bd) E (moveTrip c m6 inb6 w chk dec hidx h6l h6 h6s) fun _ =>
          iprop(∃ fS' : m6.view.ty.Contents (Elt F), ⌜∀ n < 5120, rd m6 fS' n
                = if dst ≤ n ∧ n < dst + 16 then rd m6 fS (src + (n - dst)) else rd m6 fS n⌝
              ∗ (m6.view.loc c ↦[m6.view.set]{fullShare} fS'))
          : sProp 𝕄) := by
  subst e6
  unfold moveTrip
  iintro H6
  have hc : chk w := hchk _ fun l hl => by rw [hw l hl]; omega
  iapply (wp_assume 𝒱 c bd E hc)
  iapply (SparseCore.wp_vectorLoadIdx 𝒱 c bd E (base := m6) (h := hidx _ hc) (hl := h6l) (S := m6.view.set) (f := fS) (set_access_le m6 _)) $$ H6
  iintro H6
  iapply (wp_load_rect 𝒱 c bd E (m := m6) (r := lanesAt 5120 ![dst] inb6) (S := m6.view.set) (f := fS) (set_access_le m6 (lanesAt 5120 ![dst] inb6))) $$ H6
  iintro H6
  iapply (wp_store 𝒱 c bd E (m := m6) (r := lanesAt 5120 ![dst] inb6) (S := m6.view.set) (f := fS) (set_access_le m6 _)) $$ H6
  iintro H6
  rw [ret_tail, wp_ret]
  imodintro
  iexists _
  isplitr
  · ipureintro
    intro n hn
    refine (write_at1 m6 fS inb6 (loadIdx ((m6.access (.whole _)).read (Elt F) fS) ![w] (hidx _ hc)) n hn).trans ?_
    show (if dst ≤ n ∧ n < dst + 16 then _ else _) = _
    by_cases hb : dst ≤ n ∧ n < dst + 16
    · rw [if_pos hb, if_pos hb]
      refine (loadIdx_at1 _ _ _ _).trans ?_
      rw [read_whole_access, hw _ (by show n - dst < 16; omega)]
      rfl
    · rw [if_neg hb, if_neg hb]
  · iexact H6

theorem wp_scatterTrip {off7 off6 : Fin 1 → ℕ} {inb7 : ∀ a : Fin 1, off7 a + Lanes.size a ≤ (⟨1, ![1312]⟩ : Shape).size a}
    {inb6 : ∀ a : Fin 1, off6 a + Lanes.size a ≤ (⟨1, ![5120]⟩ : Shape).size a}
    {pay : Vec F Lanes .i32 → IVec Lanes 32} {chk : IVec Lanes 32 → Prop} {dec : ∀ w, Decidable (chk w)}
    {hidx : ∀ w, chk w → ∀ a x, ((![w] : Fin 1 → IVec Lanes 32) a x).toNat < (⟨1, ![114688]⟩ : Shape).size a}
    {h7 : m7.view.LoadsAt (lanesAt 1312 off7 inb7).toLoadRect}
    {h6 : m6.view.LoadsAt (lanesAt 5120 off6 inb6).toLoadRect} {h5s : (m5.access (.whole _)).Stores Finset.univ}
    (T : ℕ → ℕ) (sl t src : ℕ) (hsl : sl < 4) (ht : t < 80) (hT : ∀ k < 1280, T k < 28672)
    (hinj : ∀ k < 1280, ∀ k' < 1280, T k = T k' → k = k')
    (e7 : off7 = ![16 * t]) (e6 : off6 = ![src])
    (hpay : ∀ (v : Vec F Lanes .i32) (l : ℕ), l < 16 → (at1 (α := BitVec 32) v l).toNat < 28672 → (at1 (pay v) l).toNat = 28672 * sl + (at1 (α := BitVec 32) v l).toNat)
    (hchk : ∀ w : IVec Lanes 32, (∀ l < 16, (at1 w l).toNat < 114688) → chk w)
    {fI : m7.view.ty.Contents (Elt F)} {fB : m5.view.ty.Contents (Elt F)} {fS : m6.view.ty.Contents (Elt F)}
    (hI : ∀ k < 1280, BitVec.toNat (rd m7 fI k) = T k) :
    iprop((m7.view.loc c ↦[m7.view.set]{fullShare} fI) ∗ (m5.view.loc c ↦[m5.view.set]{fullShare} fB) ∗ (m6.view.loc c ↦[m6.view.set]{fullShare} fS))
      ⊢ (wp frame (wpE defs 𝒱 c bd) E (scatterTrip c m5 m6 m7 inb7 inb6 pay chk dec hidx h7 h6 h5s) fun _ =>
          iprop((m7.view.loc c ↦[m7.view.set]{fullShare} fI) ∗ (m6.view.loc c ↦[m6.view.set]{fullShare} fS) ∗
            ∃ fB' : m5.view.ty.Contents (Elt F), ⌜(∀ l < 16, rd m5 fB' (28672 * sl + T (16 * t + l)) = rd m6 fS (src + l))
                ∧ ∀ n < 114688, (∀ l < 16, n ≠ 28672 * sl + T (16 * t + l)) → rd m5 fB' n = rd m5 fB n⌝
              ∗ (m5.view.loc c ↦[m5.view.set]{fullShare} fB'))
          : sProp 𝕄) := by
  subst e7; subst e6
  unfold scatterTrip
  iintro ⟨H7, H5, H6⟩
  have hv : ∀ l < 16, at1 (m7.view.readAt (Elt F) (lanesAt 1312 ![16 * t] inb7).toLoadRect fI) l = rd m7 fI (16 * t + l) := by
    intro l hl
    unfold at1
    rw [readAt_at1 m7.view fI inb7, ix1_ofNat_val hl]
    rfl
  have hw : ∀ l < 16, (at1 (pay (m7.view.readAt (Elt F) (lanesAt 1312 ![16 * t] inb7).toLoadRect fI)) l).toNat = 28672 * sl + T (16 * t + l) := by
    intro l hl
    have h0 : BitVec.toNat (at1 (m7.view.readAt (Elt F) (lanesAt 1312 ![16 * t] inb7).toLoadRect fI) l) = T (16 * t + l) := by
      rw [hv l hl]; exact hI _ (by omega)
    rw [hpay _ l hl (h0 ▸ hT _ (by omega)), h0]
  have hc : chk (pay (m7.view.readAt (Elt F) (lanesAt 1312 ![16 * t] inb7).toLoadRect fI)) :=
    hchk _ fun l hl => by rw [hw l hl]; have := hT (16 * t + l) (by omega); omega
  iapply (wp_load_rect 𝒱 c bd E (m := m7) (r := lanesAt 1312 ![16 * t] inb7) (S := m7.view.set) (f := fI) (set_access_le m7 (lanesAt 1312 ![16 * t] inb7))) $$ H7
  iintro H7
  iapply (wp_load_rect 𝒱 c bd E (m := m6) (r := lanesAt 5120 ![src] inb6) (S := m6.view.set) (f := fS) (set_access_le m6 (lanesAt 5120 ![src] inb6))) $$ H6
  iintro H6
  iapply (wp_assume 𝒱 c bd E hc)
  ihave H5 := (Entails.of_eq (congrArg (fun S => (m5.view.loc c ↦[S]{fullShare} fB : sProp 𝕄)) (set_whole_access m5).symm)) $$ H5
  iapply (SparseCore.wp_vectorStoreIdx 𝒱 c bd E (base := m5) (h := hidx _ hc) (hs := h5s) (f := fB)) $$ H5
  iintro H5
  ihave H5 := (Entails.of_eq (congrArg (fun S => (m5.view.loc c ↦[S]{fullShare} _ : sProp 𝕄)) (set_whole_access m5))) $$ H5
  rw [ret_pure, wp_ret]
  imodintro
  isplitl [H7]; · iexact H7
  isplitl [H6]; · iexact H6
  iexists _
  isplitr
  · ipureintro
    have hr : ∀ n, rd m5 ((m5.access (.whole _)).write (Elt F) fB (storeIdx ((m5.access (.whole _)).read (Elt F) fB)
          ![pay (m7.view.readAt (Elt F) (lanesAt 1312 ![16 * t] inb7).toLoadRect fI)]
          ((m6.access (lanesAt 5120 ![src] inb6)).read (Elt F) fS) (fun _ => 1#1) false (hidx _ hc)) Finset.univ) n
        = at1 (storeIdx (m5.view.read (Elt F) fB)
          ![pay (m7.view.readAt (Elt F) (lanesAt 1312 ![16 * t] inb7).toLoadRect fI)]
          ((m6.access (lanesAt 5120 ![src] inb6)).read (Elt F) fS) (fun _ => 1#1) false (hidx _ hc)) n := by
      intro n
      unfold rd
      rw [read_whole_write, read_whole_access]
    constructor
    · intro l hl
      have hb := hT (16 * t + l) (by omega)
      refine (hr _).trans ((storeIdx_hit _ _ _ _ _ _ (by omega) l hl rfl (hw l hl) ?_).trans ?_)
      · intro l' hl' _ h
        rw [hw l' hl'] at h
        have := hinj (16 * t + l') (by omega) (16 * t + l) (by omega) (by omega)
        omega
      · have := readAt_at1 m6.view fS inb6 (ix1 ⟨l, hl⟩)
        refine (at1_of_eq _ (ix1 ⟨l, hl⟩) rfl).symm.trans this
    · intro n hn hm
      refine (hr _).trans (storeIdx_miss _ _ _ _ _ _ hn ?_)
      intro l hl _ h
      exact hm l hl (by rw [← h, hw l hl])
  · iexact H5

theorem wp_edgeStep {off7 : Fin 1 → ℕ} {inb7 : ∀ a : Fin 1, off7 a + Lanes.size a ≤ (⟨1, ![1312]⟩ : Shape).size a}
    {chk : IVec Lanes 32 → Prop} {dec : ∀ w, Decidable (chk w)}
    {hidx : ∀ w, chk w → ∀ a x, ((![w] : Fin 1 → IVec Lanes 32) a x).toNat < (⟨1, ![224]⟩ : Shape).size a}
    {w : IVec Lanes 32} {chk' : IVec Lanes 32 → Prop} {dec' : ∀ w, Decidable (chk' w)}
    {hidx' : ∀ w, chk' w → ∀ a x, ((![w] : Fin 1 → IVec Lanes 32) a x).toNat < (⟨1, ![5120]⟩ : Shape).size a}
    {sel : Vec F Lanes .f32 → Vec F Lanes .f32} {mask : IVec Lanes 1}
    {h7 : m7.view.LoadsAt (lanesAt 1312 off7 inb7).toLoadRect} {h8 : m8.view.Loads}
    {h6s : (m6.access (.whole _)).Stores Finset.univ}
    (T : ℕ → ℕ) (o dst : ℕ) (ho : o + 16 ≤ 1312) (hT : ∀ l < 16, T (o + l) < 224) (e7 : off7 = ![o])
    (hw : ∀ l < 5, (at1 w l).toNat = dst + 128 * l) (hdst : ∀ l < 16, (at1 w l).toNat < 5120)
    (hmask : ∀ l < 16, at1 mask l = 1 ↔ l < 5)
    (hchk : ∀ w : IVec Lanes 32, (∀ l < 16, (at1 w l).toNat < 224) → chk w)
    (hchk' : ∀ w : IVec Lanes 32, (∀ l < 16, (at1 w l).toNat < 5120) → chk' w)
    {fI : m7.view.ty.Contents (Elt F)} {fE : m8.view.ty.Contents (Elt F)} {fS : m6.view.ty.Contents (Elt F)}
    (val : ℕ → Elt F .f32)
    (hsel : ∀ g : Vec F Lanes .f32, (∀ l < 16, at1 g l = rd m8 fE (T (o + l))) → ∀ l < 5, at1 (sel g) l = val l)
    (hI : ∀ k < 1312, BitVec.toNat (rd m7 fI k) = T k) :
    iprop((m7.view.loc c ↦[m7.view.set]{fullShare} fI) ∗ (m8.view.loc c ↦[m8.view.set]{fullShare} fE) ∗ (m6.view.loc c ↦[m6.view.set]{fullShare} fS))
      ⊢ (wp frame (wpE defs 𝒱 c bd) E (edgeStep c m6 m7 m8 inb7 chk dec hidx w chk' dec' hidx' sel mask h7 h8 h6s) fun _ =>
          iprop((m7.view.loc c ↦[m7.view.set]{fullShare} fI) ∗ (m8.view.loc c ↦[m8.view.set]{fullShare} fE) ∗
            ∃ fS' : m6.view.ty.Contents (Elt F), ⌜(∀ l < 5, rd m6 fS' (dst + 128 * l) = val l)
                ∧ ∀ n < 5120, (∀ l < 5, n ≠ dst + 128 * l) → rd m6 fS' n = rd m6 fS n⌝
              ∗ (m6.view.loc c ↦[m6.view.set]{fullShare} fS'))
          : sProp 𝕄) := by
  subst e7
  unfold edgeStep
  iintro ⟨H7, H8, H6⟩
  have hv : ∀ l < 16, BitVec.toNat (at1 (m7.view.readAt (Elt F) (lanesAt 1312 ![o] inb7).toLoadRect fI) l) = T (o + l) := by
    intro l hl
    rw [← hI (o + l) (by omega)]
    unfold at1
    rw [readAt_at1 m7.view fI inb7, ix1_ofNat_val hl]
    rfl
  have hc : chk (m7.view.readAt (Elt F) (lanesAt 1312 ![o] inb7).toLoadRect fI) := hchk _ fun l hl => by
    have := hT l hl; rw [← hv l hl] at this; exact this
  have hc' : chk' w := hchk' _ hdst
  iapply (wp_load_rect 𝒱 c bd E (m := m7) (r := lanesAt 1312 ![o] inb7) (S := m7.view.set) (f := fI) (set_access_le m7 (lanesAt 1312 ![o] inb7))) $$ H7
  iintro H7
  iapply (wp_assume 𝒱 c bd E hc)
  iapply (SparseCore.wp_vectorLoadIdx 𝒱 c bd E (base := m8) (h := hidx _ hc) (hl := h8) (S := m8.view.set) (f := fE) (set_access_le m8 _)) $$ H8
  iintro H8
  iapply (wp_assume 𝒱 c bd E hc')
  ihave H6 := (Entails.of_eq (congrArg (fun S => (m6.view.loc c ↦[S]{fullShare} fS : sProp 𝕄)) (set_whole_access m6).symm)) $$ H6
  iapply (SparseCore.wp_vectorStoreIdx 𝒱 c bd E (base := m6) (h := hidx' _ hc') (hs := h6s) (f := fS)) $$ H6
  iintro H6
  ihave H6 := (Entails.of_eq (congrArg (fun S => (m6.view.loc c ↦[S]{fullShare} _ : sProp 𝕄)) (set_whole_access m6))) $$ H6
  rw [ret_pure, wp_ret]
  imodintro
  isplitl [H7]; · iexact H7
  isplitl [H8]; · iexact H8
  iexists _
  isplitr
  · ipureintro
    have hg' : ∀ l < 16, at1 (loadIdx ((m8.access (.whole _)).read (Elt F) fE) ![m7.view.readAt (Elt F) (lanesAt 1312 ![o] inb7).toLoadRect fI] (hidx _ hc)) l = rd m8 fE (T (o + l)) := by
      intro l hl
      refine (loadIdx_at1 _ _ _ _).trans ?_
      rw [read_whole_access]
      exact congrArg (at1 (m8.view.read (Elt F) fE)) (hv l hl)
    have hr : ∀ n, rd m6 ((m6.access (.whole _)).write (Elt F) fS (storeIdx ((m6.access (.whole _)).read (Elt F) fS)
          ![w] (sel (loadIdx ((m8.access (.whole _)).read (Elt F) fE) ![m7.view.readAt (Elt F) (lanesAt 1312 ![o] inb7).toLoadRect fI] (hidx _ hc))) mask false (hidx' _ hc')) Finset.univ) n
        = at1 (storeIdx (m6.view.read (Elt F) fS) ![w] (sel (loadIdx ((m8.access (.whole _)).read (Elt F) fE) ![m7.view.readAt (Elt F) (lanesAt 1312 ![o] inb7).toLoadRect fI] (hidx _ hc))) mask false (hidx' _ hc')) n := by
      intro n
      unfold rd
      rw [read_whole_write, read_whole_access]
    constructor
    · intro l hl
      refine (hr _).trans ((storeIdx_hit _ _ _ _ _ _ (by have := hdst l (by omega); rw [hw l hl] at this; exact this) l (by omega) ((hmask l (by omega)).2 hl) (hw l hl) ?_).trans (hsel _ hg' l hl))
      intro l' hl' hm' h
      rw [hw l' ((hmask l' hl').1 hm')] at h
      omega
    · intro n hn hm
      refine (hr _).trans (storeIdx_miss _ _ _ _ _ _ hn ?_)
      intro l hl hml h
      have h5 := (hmask l hl).1 hml
      exact hm l h5 (by rw [← h, hw l h5])
  · iexact H6

/-! ## The loops -/

/-- A counted loop that keeps `H` and moves `P` from one value to the next, by a relation `R` that each trip advances. -/
theorem wp_relLoop (l : Scf.Loop 32) (hok : l.OK) (init : BitVec 32)
    (body : Fin l.trips → BitVec 32 → Prog (TpuEff nD τ sig (Elt F) Λ c.2) (BitVec 32)) {ι : Type}
    (H : sProp 𝕄) (P : ι → sProp 𝕄) (R : ℕ → ι → Prop) (a₀ : ι) (h0 : R 0 a₀)
    (htrip : ∀ (t : Fin l.trips) (acc : BitVec 32) (a : ι), R t.val a → iprop(H ∗ P a)
      ⊢ wp frame (wpE defs 𝒱 c bd) E (body t acc) fun _ => iprop(H ∗ ∃ a', ⌜R (t.val + 1) a'⌝ ∗ P a')) :
    iprop(H ∗ P a₀) ⊢ wp frame (wpE defs 𝒱 c bd) E (l.for hok init body) fun _ => iprop(H ∗ ∃ a', ⌜R l.trips a'⌝ ∗ P a') := by
  iintro ⟨HH, HP⟩
  iapply (Scf.wp_for frame (wpE defs 𝒱 c bd) E l.lb l.ub l.st hok init body
    (fun k _ => iprop(H ∗ ∃ a', ⌜R k a'⌝ ∗ P a')) (fun k acc => by
      iintro ⟨HH, %a, %ha, HP⟩
      iapply (htrip k acc a ha)
      isplitl [HH] <;> iassumption))
  isplitl [HH HP]
  · isplitl [HH]; · iexact HH
    iexists a₀
    isplitr
    · ipureintro; exact h0
    · iexact HP
  · iintro %acc HI
    iexact HI

/-- Eighty gather trips: a whole slot of the side buffer. -/
theorem wp_gatherLoop (l : Scf.Loop 32) (hok : l.OK) (init : BitVec 32) (hl : l.trips = 80)
    (body : Fin l.trips → BitVec 32 → Prog (TpuEff nD τ sig (Elt F) Λ c.2) (BitVec 32))
    (T : ℕ → ℕ) (sl : ℕ) {fI : m7.view.ty.Contents (Elt F)} {fB : m5.view.ty.Contents (Elt F)}
    (htrip : ∀ (t : Fin l.trips) (acc : BitVec 32), t.val < 80 → ∀ fS : m6.view.ty.Contents (Elt F),
      iprop((m7.view.loc c ↦[m7.view.set]{fullShare} fI) ∗ (m5.view.loc c ↦[m5.view.set]{fullShare} fB) ∗ (m6.view.loc c ↦[m6.view.set]{fullShare} fS))
      ⊢ (wp frame (wpE defs 𝒱 c bd) E (body t acc) fun _ =>
          iprop((m7.view.loc c ↦[m7.view.set]{fullShare} fI) ∗ (m5.view.loc c ↦[m5.view.set]{fullShare} fB) ∗
            ∃ fS' : m6.view.ty.Contents (Elt F), ⌜∀ n < 5120, rd m6 fS' n
                = if 1280 * sl + 16 * t.val ≤ n ∧ n < 1280 * sl + 16 * t.val + 16 then rd m5 fB (28672 * sl + T (n - 1280 * sl)) else rd m6 fS n⌝
              ∗ (m6.view.loc c ↦[m6.view.set]{fullShare} fS')) : sProp 𝕄))
    (fS : m6.view.ty.Contents (Elt F)) :
    iprop((m7.view.loc c ↦[m7.view.set]{fullShare} fI) ∗ (m5.view.loc c ↦[m5.view.set]{fullShare} fB) ∗ (m6.view.loc c ↦[m6.view.set]{fullShare} fS))
      ⊢ (wp frame (wpE defs 𝒱 c bd) E (l.for hok init body) fun _ =>
          iprop((m7.view.loc c ↦[m7.view.set]{fullShare} fI) ∗ (m5.view.loc c ↦[m5.view.set]{fullShare} fB) ∗
            ∃ fS' : m6.view.ty.Contents (Elt F), ⌜∀ n < 5120, rd m6 fS' n
                = if 1280 * sl ≤ n ∧ n < 1280 * sl + 1280 then rd m5 fB (28672 * sl + T (n - 1280 * sl)) else rd m6 fS n⌝
              ∗ (m6.view.loc c ↦[m6.view.set]{fullShare} fS')) : sProp 𝕄) := by
  iintro ⟨H7, H5, H6⟩
  iapply (wp_wand_r frame (wpE defs 𝒱 c bd) E)
  isplitl [H7 H5 H6]
  · iapply (wp_relLoop (defs := defs) 𝒱 c bd E l hok init body
      (iprop((m7.view.loc c ↦[m7.view.set]{fullShare} fI) ∗ (m5.view.loc c ↦[m5.view.set]{fullShare} fB)) : sProp 𝕄)
      (fun a : m6.view.ty.Contents (Elt F) => (m6.view.loc c ↦[m6.view.set]{fullShare} a : sProp 𝕄))
      (fun k a => ∀ n < 5120, rd m6 a n = if 1280 * sl ≤ n ∧ n < 1280 * sl + 16 * k then rd m5 fB (28672 * sl + T (n - 1280 * sl)) else rd m6 fS n)
      fS (fun n _ => by rw [if_neg (by omega)]) (by
        intro t acc a ha
        have ht : t.val < 80 := hl ▸ t.isLt
        iintro ⟨⟨H7, H5⟩, H6⟩
        iapply (wp_wand_r frame (wpE defs 𝒱 c bd) E)
        isplitl [H7 H5 H6]
        · iapply (htrip t acc ht a)
          isplitl [H7]; · iexact H7
          isplitl [H5]; · iexact H5
          iexact H6
        · iintro %r ⟨H7, H5, %a', %ha', H6⟩
          isplitl [H7 H5]
          · isplitl [H7] <;> iassumption
          iexists a'
          isplitr
          · ipureintro
            intro n hn
            rw [ha' n hn, ha n hn]
            by_cases h1 : 1280 * sl + 16 * t.val ≤ n ∧ n < 1280 * sl + 16 * t.val + 16
            · rw [if_pos h1, if_pos (by omega)]
            · rw [if_neg h1]
              by_cases h2 : 1280 * sl ≤ n ∧ n < 1280 * sl + 16 * t.val
              · rw [if_pos h2, if_pos (by omega)]
              · rw [if_neg h2, if_neg (by omega)]
          · iexact H6))
    isplitl [H7 H5]
    · isplitl [H7] <;> iassumption
    · iexact H6
  · iintro %r ⟨⟨H7, H5⟩, %a', %ha', H6⟩
    isplitl [H7]; · iexact H7
    isplitl [H5]; · iexact H5
    iexists a'
    isplitr
    · ipureintro
      rw [hl] at ha'
      exact ha'
    · iexact H6

/-- Forty move trips, from `src` up to `dst` up: the entries read are the entries before the loop, because no trip reads
    what an earlier one wrote. -/
theorem wp_moveLoop (l : Scf.Loop 32) (hok : l.OK) (init : BitVec 32) (hl : l.trips = 40)
    (body : Fin l.trips → BitVec 32 → Prog (TpuEff nD τ sig (Elt F) Λ c.2) (BitVec 32))
    (src dst : ℕ) (hsrc : src + 640 ≤ 5120) (hd : src + 640 ≤ dst ∨ dst + 640 ≤ src)
    (htrip : ∀ (t : Fin l.trips) (acc : BitVec 32), t.val < 40 → ∀ fS : m6.view.ty.Contents (Elt F),
      (m6.view.loc c ↦[m6.view.set]{fullShare} fS)
      ⊢ (wp frame (wpE defs 𝒱 c bd) E (body t acc) fun _ =>
          iprop(∃ fS' : m6.view.ty.Contents (Elt F), ⌜∀ n < 5120, rd m6 fS' n
                = if dst + 16 * t.val ≤ n ∧ n < dst + 16 * t.val + 16 then rd m6 fS (src + 16 * t.val + (n - (dst + 16 * t.val))) else rd m6 fS n⌝
              ∗ (m6.view.loc c ↦[m6.view.set]{fullShare} fS')) : sProp 𝕄))
    (fS : m6.view.ty.Contents (Elt F)) :
    (m6.view.loc c ↦[m6.view.set]{fullShare} fS)
      ⊢ (wp frame (wpE defs 𝒱 c bd) E (l.for hok init body) fun _ =>
          iprop(∃ fS' : m6.view.ty.Contents (Elt F), ⌜∀ n < 5120, rd m6 fS' n
                = if dst ≤ n ∧ n < dst + 640 then rd m6 fS (src + (n - dst)) else rd m6 fS n⌝
              ∗ (m6.view.loc c ↦[m6.view.set]{fullShare} fS')) : sProp 𝕄) := by
  iintro H6
  iapply (wp_wand_r frame (wpE defs 𝒱 c bd) E)
  isplitl [H6]
  · iapply (wp_relLoop (defs := defs) 𝒱 c bd E l hok init body (iprop(emp) : sProp 𝕄)
      (fun a : m6.view.ty.Contents (Elt F) => (m6.view.loc c ↦[m6.view.set]{fullShare} a : sProp 𝕄))
      (fun k a => ∀ n < 5120, rd m6 a n = if dst ≤ n ∧ n < dst + 16 * k then rd m6 fS (src + (n - dst)) else rd m6 fS n)
      fS (fun n _ => by rw [if_neg (by omega)]) (by
        intro t acc a ha
        have ht : t.val < 40 := hl ▸ t.isLt
        iintro ⟨He, H6⟩
        iapply (wp_wand_r frame (wpE defs 𝒱 c bd) E)
        isplitl [H6]
        · iapply (htrip t acc ht a)
          iexact H6
        · iintro %r ⟨%a', %ha', H6⟩
          isplitl [He]; · iexact He
          iexists a'
          isplitr
          · ipureintro
            intro n hn
            rw [ha' n hn]
            by_cases h1 : dst + 16 * t.val ≤ n ∧ n < dst + 16 * t.val + 16
            · rw [if_pos h1, ha _ (by omega), if_neg (by omega), if_pos (by omega)]
              exact congrArg _ (by omega)
            · rw [if_neg h1, ha n hn]
              by_cases h2 : dst ≤ n ∧ n < dst + 16 * t.val
              · rw [if_pos h2, if_pos (by omega)]
              · rw [if_neg h2, if_neg (by omega)]
          · iexact H6))
    isplitr
    · iempintro
    · iexact H6
  · iintro %r ⟨He, %a', %ha', H6⟩
    iclear He
    iexists a'
    isplitr
    · ipureintro
      rw [hl] at ha'
      exact ha'
    · iexact H6

/-- Eighty scatter trips: every saved entry in its place, everything else as it was. -/
theorem wp_scatterLoop (l : Scf.Loop 32) (hok : l.OK) (init : BitVec 32) (hl : l.trips = 80)
    (body : Fin l.trips → BitVec 32 → Prog (TpuEff nD τ sig (Elt F) Λ c.2) (BitVec 32))
    (T : ℕ → ℕ) (src : ℕ → ℕ) (sl : ℕ) (hsl : sl < 4) (hT : ∀ k < 1280, T k < 28672)
    (hinj : ∀ k < 1280, ∀ k' < 1280, T k = T k' → k = k')
    {fI : m7.view.ty.Contents (Elt F)} {fS : m6.view.ty.Contents (Elt F)}
    (htrip : ∀ (t : Fin l.trips) (acc : BitVec 32), t.val < 80 → ∀ fB : m5.view.ty.Contents (Elt F),
      iprop((m7.view.loc c ↦[m7.view.set]{fullShare} fI) ∗ (m5.view.loc c ↦[m5.view.set]{fullShare} fB) ∗ (m6.view.loc c ↦[m6.view.set]{fullShare} fS))
      ⊢ (wp frame (wpE defs 𝒱 c bd) E (body t acc) fun _ =>
          iprop((m7.view.loc c ↦[m7.view.set]{fullShare} fI) ∗ (m6.view.loc c ↦[m6.view.set]{fullShare} fS) ∗
            ∃ fB' : m5.view.ty.Contents (Elt F), ⌜(∀ l < 16, rd m5 fB' (28672 * sl + T (16 * t.val + l)) = rd m6 fS (src t.val + l))
                ∧ ∀ n < 114688, (∀ l < 16, n ≠ 28672 * sl + T (16 * t.val + l)) → rd m5 fB' n = rd m5 fB n⌝
              ∗ (m5.view.loc c ↦[m5.view.set]{fullShare} fB')) : sProp 𝕄))
    (fB : m5.view.ty.Contents (Elt F)) :
    iprop((m7.view.loc c ↦[m7.view.set]{fullShare} fI) ∗ (m5.view.loc c ↦[m5.view.set]{fullShare} fB) ∗ (m6.view.loc c ↦[m6.view.set]{fullShare} fS))
      ⊢ (wp frame (wpE defs 𝒱 c bd) E (l.for hok init body) fun _ =>
          iprop((m7.view.loc c ↦[m7.view.set]{fullShare} fI) ∗ (m6.view.loc c ↦[m6.view.set]{fullShare} fS) ∗
            ∃ fB' : m5.view.ty.Contents (Elt F), ⌜(∀ k < 1280, rd m5 fB' (28672 * sl + T k) = rd m6 fS (src (k / 16) + k % 16))
                ∧ ∀ n < 114688, (∀ k < 1280, n ≠ 28672 * sl + T k) → rd m5 fB' n = rd m5 fB n⌝
              ∗ (m5.view.loc c ↦[m5.view.set]{fullShare} fB')) : sProp 𝕄) := by
  iintro ⟨H7, H5, H6⟩
  iapply (wp_wand_r frame (wpE defs 𝒱 c bd) E)
  isplitl [H7 H5 H6]
  · iapply (wp_relLoop (defs := defs) 𝒱 c bd E l hok init body
      (iprop((m7.view.loc c ↦[m7.view.set]{fullShare} fI) ∗ (m6.view.loc c ↦[m6.view.set]{fullShare} fS)) : sProp 𝕄)
      (fun a : m5.view.ty.Contents (Elt F) => (m5.view.loc c ↦[m5.view.set]{fullShare} a : sProp 𝕄))
      (fun j a => (∀ k < 1280, k < 16 * j → rd m5 a (28672 * sl + T k) = rd m6 fS (src (k / 16) + k % 16))
        ∧ ∀ n < 114688, (∀ k < 1280, n ≠ 28672 * sl + T k) → rd m5 a n = rd m5 fB n)
      fB ⟨fun k _ hk => absurd hk (by omega), fun n _ _ => rfl⟩ (by
        intro t acc a ⟨ha, hb⟩
        have ht : t.val < 80 := hl ▸ t.isLt
        iintro ⟨⟨H7, H6⟩, H5⟩
        iapply (wp_wand_r frame (wpE defs 𝒱 c bd) E)
        isplitl [H7 H5 H6]
        · iapply (htrip t acc ht a)
          isplitl [H7]; · iexact H7
          isplitl [H5]; · iexact H5
          iexact H6
        · iintro %r ⟨H7, H6, %a', %ha', H5⟩
          isplitl [H7 H6]
          · isplitl [H7] <;> iassumption
          iexists a'
          isplitr
          · ipureintro
            obtain ⟨h1, h2⟩ := ha'
            constructor
            · intro k hk hk'
              by_cases hlt : k < 16 * t.val
              · have := hT k hk
                rw [h2 _ (by omega), ha k hk hlt]
                intro l hl' e
                have := hinj k hk (16 * t.val + l) (by omega) (by omega)
                omega
              · have := h1 (k - 16 * t.val) (by omega)
                rw [show 16 * t.val + (k - 16 * t.val) = k by omega] at this
                rw [this, show k / 16 = t.val by omega, show k % 16 = k - 16 * t.val by omega]
            · intro n hn hm
              rw [h2 n hn fun l hl' => hm _ (by omega), hb n hn hm]
          · iexact H5))
    isplitl [H7 H6]
    · isplitl [H7] <;> iassumption
    · iexact H5
  · iintro %r ⟨⟨H7, H6⟩, %a', %ha', H5⟩
    isplitl [H7]; · iexact H7
    isplitl [H6]; · iexact H6
    iexists a'
    isplitr
    · ipureintro
      rw [hl] at ha'
      exact ⟨fun k hk => ha'.1 k hk (by omega), ha'.2⟩
    · iexact H5

end Rules

end Cert.Proof
-- ==== Proof.Windows.lean ====
/-
  Windows of a two-dimensional array by natural-number position: `at2 g r c` is the entry in row `r` and column `c`. A
  stretch of one row, taken as a vector, is what the kernel's copies read and write; and a stretch of a vector likewise.
-/
module

public import proofs.«01_k».proof.Proof.Vectors
public import Idealize.ShloMosaic.Lib.Pointwise.Reshape
public import Idealize.ShloMosaic.Lib.ViewIndex

@[expose] public section

noncomputable section

namespace Cert.Proof

open Idealize.ShloMosaic

/-- The entry of an `M` by `N` array in row `r` and column `c` (positions past the ends wrap round). -/
def at2 {α : Type} {M N : ℕ} [NeZero M] [NeZero N] (g : (⟨2, ![M, N]⟩ : Shape).Idx → α) (r c : ℕ) : α :=
  g (ix2 (Fin.ofNat M r) (Fin.ofNat N c))

theorem at2_of_eq {α : Type} {M N : ℕ} [NeZero M] [NeZero N] (g : (⟨2, ![M, N]⟩ : Shape).Idx → α)
    (y : (⟨2, ![M, N]⟩ : Shape).Idx) {r c : ℕ} (h0 : (y 0).val = r) (h1 : (y 1).val = c) : g y = at2 g r c := by
  subst h0; subst h1
  unfold at2
  refine congrArg g ?_
  funext a
  match a with
  | ⟨0, _⟩ => exact Fin.ext (Nat.mod_eq_of_lt (y 0).isLt).symm
  | ⟨1, _⟩ => exact Fin.ext (Nat.mod_eq_of_lt (y 1).isLt).symm

/-- A vector of `w` entries as one row of `w` columns: its position is the column. -/
theorem row_ix {w : ℕ} (h : (⟨1, ![w]⟩ : Shape).numel = (⟨2, ![1, w]⟩ : Shape).numel) (x : (⟨1, ![w]⟩ : Shape).Idx) :
    ((Shape.reshapeEquiv h x) 0).val = 0 ∧ ((Shape.reshapeEquiv h x) 1).val = (x 0).val := by
  have h0 : ((Shape.reshapeEquiv h x) 0).val = 0 := by
    have h0 : ((Shape.reshapeEquiv h x) 0).val < 1 := ((Shape.reshapeEquiv h x) 0).isLt
    omega
  refine ⟨h0, ?_⟩
  have h1 := rowMajor_val1 x
  have h2 := rowMajor_val2 (Shape.reshapeEquiv h x) w rfl
  have h3 := Shape.rowMajor_reshapeEquiv h x
  rw [h0] at h2
  omega

section Rects

variable {sig : RefSig} {κ : Kind} {sp : Space} {e : EltTy} {Val : EltTy → Type} {M N : ℕ} [NeZero M] [NeZero N]

/-- What a stretch of one row, taken as a vector, reads. -/
theorem read_row (v : View sig κ sp (⟨2, ![M, N]⟩ : Shape) e) (f : v.ty.Contents Val) {w : ℕ} {off : Fin 2 → ℕ}
    (inb : ∀ a : Fin 2, off a + (⟨2, ![1, w]⟩ : Shape).size a ≤ (⟨2, ![M, N]⟩ : Shape).size a)
    (h : (⟨1, ![w]⟩ : Shape).numel = (⟨2, ![1, w]⟩ : Shape).numel) (x : (⟨1, ![w]⟩ : Shape).Idx) :
    ((v.slice (Rect.unit (s := ⟨2, ![M, N]⟩) off (⟨2, ![1, w]⟩ : Shape).size inb)).reshape ⟨1, ![w]⟩ h).read Val f x
      = at2 (v.read Val f) (off 0) (off 1 + (x 0).val) := by
  have hx := row_ix h x
  refine at2_of_eq (v.read Val f) ((Rect.unit (s := ⟨2, ![M, N]⟩) off (⟨2, ![1, w]⟩ : Shape).size inb).emb (Shape.reshapeEquiv h x)) ?_ ?_
  · show off 0 + 1 * ((Shape.reshapeEquiv h x) 0).val = _
    rw [hx.1]; omega
  · show off 1 + 1 * ((Shape.reshapeEquiv h x) 1).val = _
    rw [hx.2]; omega

/-- What writing a stretch of one row leaves. -/
theorem write_row (v : View sig κ sp (⟨2, ![M, N]⟩ : Shape) e) (f : v.ty.Contents Val) {w : ℕ} [NeZero w] {off : Fin 2 → ℕ}
    (inb : ∀ a : Fin 2, off a + (⟨2, ![1, w]⟩ : Shape).size a ≤ (⟨2, ![M, N]⟩ : Shape).size a)
    (h : (⟨1, ![w]⟩ : Shape).numel = (⟨2, ![1, w]⟩ : Shape).numel) (g : (⟨1, ![w]⟩ : Shape).Idx → Val e)
    (r c : ℕ) (hr : r < M) (hc : c < N) :
    at2 (v.read Val (((v.slice (Rect.unit (s := ⟨2, ![M, N]⟩) off (⟨2, ![1, w]⟩ : Shape).size inb)).reshape ⟨1, ![w]⟩ h).write Val f g Finset.univ)) r c
      = if r = off 0 ∧ off 1 ≤ c ∧ c < off 1 + w then at1 g (c - off 1) else at2 (v.read Val f) r c := by
  by_cases hb : r = off 0 ∧ off 1 ≤ c ∧ c < off 1 + w
  · rw [if_pos hb]
    have hw := ((v.slice (Rect.unit (s := ⟨2, ![M, N]⟩) off (⟨2, ![1, w]⟩ : Shape).size inb)).read_write_reshape h f g
      (ix1 ⟨c - off 1, by omega⟩))
    have hx := row_ix h (ix1 ⟨c - off 1, by omega⟩)
    refine Eq.trans ?_ (hw.trans (at1_of_eq g _ rfl))
    refine (at2_of_eq (v.read Val _) ((Rect.unit (s := ⟨2, ![M, N]⟩) off (⟨2, ![1, w]⟩ : Shape).size inb).emb
      (Shape.reshapeEquiv h (ix1 ⟨c - off 1, by omega⟩))) ?_ ?_).symm
    · show off 0 + 1 * ((Shape.reshapeEquiv h _) 0).val = _
      rw [hx.1]; omega
    · show off 1 + 1 * ((Shape.reshapeEquiv h _) 1).val = _
      rw [hx.2]
      show off 1 + 1 * (c - off 1) = c
      omega
  · rw [if_neg hb]
    unfold at2
    rw [View.read_apply, View.read_apply, View.write_of_not_mem]
    intro hm
    rw [View.setOn_univ, View.set_reshape, View.set_slice] at hm
    obtain ⟨y, hy, he⟩ := Finset.mem_map.1 hm
    have hy' := v.emb.injective he
    subst hy'
    obtain ⟨x, -, hx⟩ := Finset.mem_map.1 ((Rect.map_emb_univ _).symm ▸ hy)
    have e0 : off 0 + 1 * (x 0).val = r := (congrArg (fun z : (⟨2, ![M, N]⟩ : Shape).Idx => (z 0).val) hx).trans (Nat.mod_eq_of_lt hr)
    have e1 : off 1 + 1 * (x 1).val = c := (congrArg (fun z : (⟨2, ![M, N]⟩ : Shape).Idx => (z 1).val) hx).trans (Nat.mod_eq_of_lt hc)
    have x0 : (x 0).val < 1 := (x 0).isLt
    have x1 : (x 1).val < w := (x 1).isLt
    exact hb ⟨by omega, by omega, by omega⟩

/-- What a stretch of a vector reads. -/
theorem read_stretch (v : View sig κ sp (⟨1, ![N]⟩ : Shape) e) (f : v.ty.Contents Val) {w : ℕ} {off : Fin 1 → ℕ}
    (inb : ∀ a : Fin 1, off a + (⟨1, ![w]⟩ : Shape).size a ≤ (⟨1, ![N]⟩ : Shape).size a) (x : (⟨1, ![w]⟩ : Shape).Idx) :
    (v.slice (Rect.unit (s := ⟨1, ![N]⟩) off (⟨1, ![w]⟩ : Shape).size inb)).read Val f x = at1 (v.read Val f) (off 0 + (x 0).val) := by
  refine at1_of_eq (v.read Val f) ((Rect.unit (s := ⟨1, ![N]⟩) off (⟨1, ![w]⟩ : Shape).size inb).emb x) ?_
  show off 0 + 1 * (x 0).val = _
  omega

end Rects

end Cert.Proof
-- ==== Proof.Spec.lean ====
/-
  The shift, row by row over a flattened row of 512 pixels of 224 channels, and the bookkeeping of one strip of 128 pixels:
  where the marked channels of the strip lie (`tab`), what the row buffer and the side buffer hold when a row's turn comes
  (`RowOk`) and after the row below it has been brought in (`NextOk`), and that putting the saved entries in place makes
  the row the shifted one (`fix_row`). Plain arithmetic over positions; nothing of a program.
-/
module

public import Idealize.ShloMosaic.Lib.Tactic

@[expose] public section

namespace Cert.Proof

/-- The marked channels: the five that take the next row first, then the five that take the row before. -/
def chan : ℕ → ℕ
  | 0 => 36 | 1 => 84 | 2 => 102 | 3 => 110 | 4 => 160 | 5 => 0 | 6 => 97 | 7 => 111 | 8 => 159 | 9 => 221 | _ => 0

def isFwd (c : ℕ) : Prop := c = 36 ∨ c = 84 ∨ c = 102 ∨ c = 110 ∨ c = 160

def isBwd (c : ℕ) : Prop := c = 0 ∨ c = 97 ∨ c = 111 ∨ c = 159 ∨ c = 221

instance (c : ℕ) : Decidable (isFwd c) := by unfold isFwd; infer_instance
instance (c : ℕ) : Decidable (isBwd c) := by unfold isBwd; infer_instance

/-- The kernel's table: 1280 positions of a strip (channel by channel, pixels ascending), then the five channels of the
    column before the strip and the five of the column behind it, each padded by zeros to sixteen. -/
def tab (k : ℕ) : ℕ :=
  if k < 1280 then 224 * (k % 128) + chan (k / 128)
  else if k < 1285 then chan (k - 1275)
  else if k < 1296 then 0
  else if k < 1301 then chan (k - 1296)
  else 0

theorem chan_lt (j : ℕ) : chan j < 224 := by
  unfold chan; split <;> omega

theorem chan_fwd {j : ℕ} (h : j < 5) : isFwd (chan j) := by
  exact (by decide : ∀ j < 5, isFwd (chan j)) j h

theorem chan_bwd {j : ℕ} (h : 5 ≤ j) (h' : j < 10) : isBwd (chan j) ∧ ¬ isFwd (chan j) := by
  exact (by decide : ∀ j < 10, 5 ≤ j → isBwd (chan j) ∧ ¬ isFwd (chan j)) j h' h

theorem chan_inj {j j' : ℕ} (h : j < 10) (h' : j' < 10) (e : chan j = chan j') : j = j' := by
  exact (by decide : ∀ j < 10, ∀ j' < 10, chan j = chan j' → j = j') j h j' h' e

theorem tab_strip {k : ℕ} (h : k < 1280) : tab k = 224 * (k % 128) + chan (k / 128) := if_pos h

theorem tab_lt {k : ℕ} (h : k < 1280) : tab k < 28672 := by
  rw [tab_strip h]; have := chan_lt (k / 128); omega

theorem tab_mod {k : ℕ} (h : k < 1280) : tab k % 224 = chan (k / 128) := by
  rw [tab_strip h]; have := chan_lt (k / 128); omega

theorem tab_inj {k k' : ℕ} (h : k < 1280) (h' : k' < 1280) (e : tab k = tab k') : k = k' := by
  have hc : chan (k / 128) = chan (k' / 128) := by rw [← tab_mod h, ← tab_mod h', e]
  have := chan_inj (by omega) (by omega) hc
  rw [tab_strip h, tab_strip h', hc] at e
  omega

theorem tab_fwd {k : ℕ} (h : k < 640) : isFwd (tab k % 224) := by
  rw [tab_mod (by omega)]; exact chan_fwd (by omega)

theorem tab_bwd {k : ℕ} (h : 640 ≤ k) (h' : k < 1280) : isBwd (tab k % 224) ∧ ¬ isFwd (tab k % 224) := by
  rw [tab_mod h']; exact chan_bwd (by omega) (by omega)

theorem tab_onto {j : ℕ} (h : j < 28672) (hm : isFwd (j % 224) ∨ isBwd (j % 224)) : ∃ k < 1280, tab k = j := by
  have key : ∃ l < 10, chan l = j % 224 := by
    rcases hm with hm | hm <;> rcases hm with hm | hm | hm | hm | hm <;> rw [hm]
    exacts [⟨0, by omega, rfl⟩, ⟨1, by omega, rfl⟩, ⟨2, by omega, rfl⟩, ⟨3, by omega, rfl⟩, ⟨4, by omega, rfl⟩,
      ⟨5, by omega, rfl⟩, ⟨6, by omega, rfl⟩, ⟨7, by omega, rfl⟩, ⟨8, by omega, rfl⟩, ⟨9, by omega, rfl⟩]
  obtain ⟨l, hl, e⟩ := key
  refine ⟨128 * l + j / 224, by omega, ?_⟩
  rw [tab_strip (by omega), show (128 * l + j / 224) / 128 = l by omega, e]
  omega

theorem tab_before {l : ℕ} (h : l < 5) : tab (1280 + l) = chan (5 + l) := by
  unfold tab
  rw [if_neg (by omega), if_pos (by omega)]
  exact congrArg chan (by omega)

theorem tab_behind {l : ℕ} (h : l < 5) : tab (1296 + l) = chan l := by
  unfold tab
  rw [if_neg (by omega), if_neg (by omega), if_neg (by omega), if_pos (by omega)]
  exact congrArg chan (by omega)

theorem tab_edge_lt {k : ℕ} (h : 1280 ≤ k) : tab k < 224 := by
  unfold tab
  rw [if_neg (by omega)]
  have h1 := chan_lt (k - 1275)
  have h2 := chan_lt (k - 1296)
  split_ifs <;> omega

section Rows

variable {α : Type} (X : ℕ → ℕ → α) (z : α)

/-- The shifted array, at a row and a column of the flattened row: a forward channel takes the next row, and in the last
    row the next pixel; a backward channel takes the row before, and in the first row the pixel before; zero past the end. -/
def shifted (r col : ℕ) : α :=
  if isFwd (col % 224) then (if r < 511 then X (r + 1) col else if col + 224 < 114688 then X 511 (col + 224) else z)
  else if isBwd (col % 224) then (if 0 < r then X (r - 1) col else if 224 ≤ col then X 0 (col - 224) else z)
  else X r col

variable (st : ℕ)

/-- When row `r`'s turn comes: the row is in its slot, its marked entries are saved, and the slot before holds what the
    backward channels take. -/
def RowOk (r : ℕ) (buf sav : ℕ → α) : Prop :=
  r < 512 → (∀ j < 28672, buf (28672 * (r % 4) + j) = X r (28672 * st + j))
    ∧ (∀ k < 1280, sav (1280 * (r % 4) + k) = X r (28672 * st + tab k))
    ∧ ∀ k < 1280, 640 ≤ k → sav (1280 * ((r + 3) % 4) + k) = shifted X z r (28672 * st + tab k)

/-- When the row below has been brought in: the slot behind row `r`'s holds what the forward channels take. -/
def NextOk (r : ℕ) (buf sav : ℕ → α) : Prop :=
  (∀ j < 28672, buf (28672 * (r % 4) + j) = X r (28672 * st + j))
    ∧ (∀ k < 1280, sav (1280 * (r % 4) + k) = X r (28672 * st + tab k))
    ∧ (∀ k < 1280, 640 ≤ k → sav (1280 * ((r + 3) % 4) + k) = shifted X z r (28672 * st + tab k))
    ∧ (∀ k < 640, sav (1280 * ((r + 1) % 4) + k) = shifted X z r (28672 * st + tab k))
    ∧ (r + 1 < 512 → (∀ j < 28672, buf (28672 * ((r + 1) % 4) + j) = X (r + 1) (28672 * st + j))
        ∧ ∀ k < 1280, sav (1280 * ((r + 1) % 4) + k) = X (r + 1) (28672 * st + tab k))

variable {X z st}

theorem strip_mod (j : ℕ) : (28672 * st + j) % 224 = j % 224 := by omega

theorem shifted_fwd {k r : ℕ} (h : k < 640) : shifted X z r (28672 * st + tab k)
    = if r < 511 then X (r + 1) (28672 * st + tab k) else if 28672 * st + tab k + 224 < 114688 then X 511 (28672 * st + tab k + 224) else z := by
  unfold shifted
  rw [strip_mod, if_pos (tab_fwd h)]

theorem shifted_bwd {k r : ℕ} (h : 640 ≤ k) (h' : k < 1280) : shifted X z r (28672 * st + tab k)
    = if 0 < r then X (r - 1) (28672 * st + tab k) else if 224 ≤ 28672 * st + tab k then X 0 (28672 * st + tab k - 224) else z := by
  unfold shifted
  rw [strip_mod, if_neg (tab_bwd h h').2, if_pos (tab_bwd h h').1]

theorem shifted_rest {j r : ℕ} (h : ¬ isFwd (j % 224)) (h' : ¬ isBwd (j % 224)) : shifted X z r (28672 * st + j) = X r (28672 * st + j) := by
  unfold shifted
  rw [strip_mod, if_neg h, if_neg h']

/-- The first row of a band that is not the topmost: the row above is read in, and its marked entries are saved. -/
theorem start_row {r : ℕ} (hr : 0 < r) {buf sav sav₁ sav₂ buf₁ : ℕ → α}
    (h₁ : ∀ k < 1280, sav₁ (1280 * ((r + 3) % 4) + k) = X (r - 1) (28672 * st + tab k))
    (hb : ∀ j < 28672, buf (28672 * (r % 4) + j) = X r (28672 * st + j))
    (h₂ : ∀ n < 5120, sav n = if 1280 * (r % 4) ≤ n ∧ n < 1280 * (r % 4) + 1280 then buf (28672 * (r % 4) + tab (n - 1280 * (r % 4))) else sav₁ n) :
    RowOk X z st r buf sav := by
  intro hr'
  refine ⟨hb, fun k hk => ?_, fun k hk hk' => ?_⟩
  · rw [h₂ _ (by omega), if_pos (by omega), Nat.add_sub_cancel_left, hb _ (tab_lt hk)]
  · rw [h₂ _ (by omega), if_neg (by omega), h₁ k hk, shifted_bwd hk' hk, if_pos hr]

/-- The topmost row: what the backward channels take is the same row's saved entries one pixel on, and the neighbour's
    column in front. -/
theorem start_top {buf sav sav₁ sav₂ sav₃ : ℕ → α} (val : ℕ → α)
    (hb : ∀ j < 28672, buf j = X 0 (28672 * st + j))
    (h₂ : ∀ n < 5120, sav₂ n = if n < 1280 then buf (tab n) else sav₁ n)
    (h₃ : ∀ n < 5120, sav₃ n = if 4480 ≤ n ∧ n < 5120 then sav₂ (639 + (n - 4480)) else sav₂ n)
    (hval : ∀ l < 5, val l = if 0 < st then X 0 (28672 * st - 224 + chan (5 + l)) else z)
    (h₄ : ∀ l < 5, sav (4480 + 128 * l) = val l)
    (h₅ : ∀ n < 5120, (∀ l < 5, n ≠ 4480 + 128 * l) → sav n = sav₃ n) :
    RowOk X z st 0 buf sav := by
  have h₀ : ∀ k < 1280, sav₂ k = X 0 (28672 * st + tab k) := fun k hk => by
    rw [h₂ _ (by omega), if_pos hk, hb _ (tab_lt hk)]
  intro _
  refine ⟨fun j hj => ?_, fun k hk => ?_, fun k hk hk' => ?_⟩
  · rw [show 28672 * (0 % 4) + j = j by omega]; exact hb j hj
  · rw [show 1280 * (0 % 4) + k = k by omega, h₅ _ (by omega) (by omega), h₃ _ (by omega), if_neg (by omega), h₀ k hk]
  · rw [show 1280 * ((0 + 3) % 4) + k = 3840 + k by omega, shifted_bwd hk' hk, if_neg (by omega)]
    have ht := tab_strip hk
    have hc := chan_lt (k / 128)
    by_cases hp : k % 128 = 0
    · have e : 3840 + k = 4480 + 128 * (k / 128 - 5) := by omega
      rw [e, h₄ _ (by omega), hval _ (by omega), show 5 + (k / 128 - 5) = k / 128 by omega]
      by_cases hst : 0 < st
      · rw [if_pos hst, if_pos (by omega)]; congr 1; omega
      · rw [if_neg hst, if_neg (by omega)]
    · have ht' : tab (k - 1) = tab k - 224 := by
        rw [tab_strip (by omega), ht, show (k - 1) / 128 = k / 128 by omega]
        omega
      have h640 : k ≠ 640 := by omega
      rw [h₅ _ (by omega) (by omega), h₃ _ (by omega), if_pos (by omega), show 639 + (3840 + k - 4480) = k - 1 by omega,
        h₀ _ (by omega), ht', if_pos (by omega)]
      congr 1; omega

/-- Bringing in the row below. -/
theorem next_row {r : ℕ} (hr : r + 1 < 512) {buf sav buf₁ sav₁ : ℕ → α} (h : RowOk X z st r buf sav)
    (hb : ∀ n < 114688, buf₁ n = if 28672 * ((r + 1) % 4) ≤ n ∧ n < 28672 * ((r + 1) % 4) + 28672 then X (r + 1) (28672 * st + (n - 28672 * ((r + 1) % 4))) else buf n)
    (hs : ∀ n < 5120, sav₁ n = if 1280 * ((r + 1) % 4) ≤ n ∧ n < 1280 * ((r + 1) % 4) + 1280 then buf₁ (28672 * ((r + 1) % 4) + tab (n - 1280 * ((r + 1) % 4))) else sav n) :
    NextOk X z st r buf₁ sav₁ := by
  obtain ⟨h1, h2, h3⟩ := h (by omega)
  have hb' : ∀ j < 28672, buf₁ (28672 * ((r + 1) % 4) + j) = X (r + 1) (28672 * st + j) := fun j hj => by
    rw [hb _ (by omega), if_pos (by omega), Nat.add_sub_cancel_left]
  have hs' : ∀ k < 1280, sav₁ (1280 * ((r + 1) % 4) + k) = X (r + 1) (28672 * st + tab k) := fun k hk => by
    rw [hs _ (by omega), if_pos (by omega), Nat.add_sub_cancel_left, hb' _ (tab_lt hk)]
  refine ⟨fun j hj => ?_, fun k hk => ?_, fun k hk hk' => ?_, fun k hk => ?_, fun _ => ⟨hb', hs'⟩⟩
  · rw [hb _ (by omega), if_neg (by omega), h1 j hj]
  · rw [hs _ (by omega), if_neg (by omega), h2 k hk]
  · rw [hs _ (by omega), if_neg (by omega), h3 k hk hk']
  · rw [hs' k (by omega), shifted_fwd hk, if_pos (by omega)]

/-- The last row: what the forward channels take is the same row's saved entries one pixel back, and the neighbour's
    column behind. -/
theorem next_bottom {buf sav sav₁ sav₂ : ℕ → α} (hst : st < 4) (h : RowOk X z st 511 buf sav) (val : ℕ → α)
    (h₁ : ∀ n < 5120, sav₁ n = if n < 640 then sav (3841 + n) else sav n)
    (hval : ∀ l < 5, val l = if st < 3 then X 511 (28672 * st + 28672 + chan l) else z)
    (h₄ : ∀ l < 5, sav₂ (127 + 128 * l) = val l)
    (h₅ : ∀ n < 5120, (∀ l < 5, n ≠ 127 + 128 * l) → sav₂ n = sav₁ n) :
    NextOk X z st 511 buf sav₂ := by
  obtain ⟨h1, h2, h3⟩ := h (by omega)
  refine ⟨h1, fun k hk => ?_, fun k hk hk' => ?_, fun k hk => ?_, fun hh => absurd hh (by omega)⟩
  · rw [h₅ _ (by omega) (by omega), h₁ _ (by omega), if_neg (by omega), h2 k hk]
  · rw [h₅ _ (by omega) (by omega), h₁ _ (by omega), if_neg (by omega), h3 k hk hk']
  · rw [show 1280 * ((511 + 1) % 4) + k = k by omega, shifted_fwd hk, if_neg (by omega)]
    have ht := tab_strip (show k < 1280 by omega)
    have hc := chan_lt (k / 128)
    by_cases hp : k % 128 = 127
    · have e : k = 127 + 128 * (k / 128) := by omega
      rw [ht, hp]
      rw [e, h₄ _ (by omega), hval _ (by omega), ← e]
      by_cases hs : st < 3
      · rw [if_pos hs, if_pos (by omega)]; congr 1; omega
      · rw [if_neg hs, if_neg (by omega)]
    · have ht' : tab (k + 1) = tab k + 224 := by
        rw [tab_strip (by omega), ht, show (k + 1) / 128 = k / 128 by omega]
        omega
      rw [h₅ _ (by omega) (by omega), h₁ _ (by omega), if_pos hk, show 3841 + k = 1280 * (511 % 4) + (k + 1) by omega,
        h2 _ (by omega), ht', if_pos (by omega)]
      congr 1

/-- Putting the saved entries in place makes the row the shifted one, and leaves the next row's turn as it should be. -/
theorem fix_row {r : ℕ} {buf sav buf₁ : ℕ → α} (h : NextOk X z st r buf sav)
    (h₁ : ∀ k < 1280, buf₁ (28672 * (r % 4) + tab k) = sav (1280 * (if k < 640 then (r + 1) % 4 else (r + 3) % 4) + k))
    (h₂ : ∀ n < 114688, (∀ k < 1280, n ≠ 28672 * (r % 4) + tab k) → buf₁ n = buf n) :
    (∀ j < 28672, buf₁ (28672 * (r % 4) + j) = shifted X z r (28672 * st + j)) ∧ RowOk X z st (r + 1) buf₁ sav := by
  obtain ⟨g1, g2, g3, g4, g5⟩ := h
  constructor
  · intro j hj
    by_cases hm : isFwd (j % 224) ∨ isBwd (j % 224)
    · obtain ⟨k, hk, rfl⟩ := tab_onto hj hm
      rw [h₁ k hk]
      by_cases hk' : k < 640
      · rw [if_pos hk', g4 k hk']
      · rw [if_neg hk', g3 k hk (by omega)]
    · rw [h₂ _ (by omega), g1 j hj, shifted_rest (fun h => hm (.inl h)) fun h => hm (.inr h)]
      intro k hk e
      have e' : j = tab k := by omega
      subst e'
      rcases lt_or_ge k 640 with hk' | hk'
      · exact hm (.inl (tab_fwd hk'))
      · exact hm (.inr (tab_bwd hk' hk).1)
  · intro hr
    obtain ⟨b, s⟩ := g5 hr
    refine ⟨fun j hj => ?_, s, fun k hk hk' => ?_⟩
    · rw [h₂ _ (by omega), b j hj]
      intro k hk e
      have := tab_lt hk
      omega
    · rw [show (r + 1 + 3) % 4 = r % 4 by omega, g2 k hk, shifted_bwd hk' hk, if_pos (by omega), Nat.add_sub_cancel]

end Rows

end Cert.Proof
-- ==== Proof.Shares.lean ====
/-
  A share of a piece of memory cut into as many parts as there are readers.
-/
module

public import Idealize.ShloMosaic.Lib.SparseCore.Ops
public import Idealize.ShloMosaic.Lib.Tactic

@[expose] public section

noncomputable section

namespace Cert.Proof

open Idealize.ShloMosaic
open Idealize.SL Idealize.SL.RA Idealize.SL.BI
open scoped Idealize.SL.BI
open Idealize.SL.BI.BIBase Idealize.SL.BI.Laws Idealize.SL.ProofMode Idealize.SL.Sem

/-- `n + 1` parts of a share: half of it, half of what is left, and so on; the last part is all that is left. -/
def cut : (n : ℕ) → PosShare TreeShare → Fin (n + 1) → PosShare TreeShare
  | 0, q => fun _ => q
  | n + 1, q => Fin.cons q.left (cut n q.right)

variable {nD : Nat} {τ : Topo} {sig : RefSig} {Ix : Type} [DecidableEq Ix]
variable {F : FTy → Type} {Name : Type} [DecidableEq Name]
variable {U : Type} [URA U] {Lvl : Type} [Preorder Lvl]

local notation "𝕄" => MT nD τ sig Ix (Elt F) Name U Lvl

theorem univ_erase_zero (n : ℕ) : (Finset.univ : Finset (Fin (n + 1))).erase 0 = Finset.univ.map (Fin.succEmb n) := by
  ext i
  simp only [Finset.mem_erase, Finset.mem_univ, and_true, Finset.mem_map, true_and, Fin.coe_succEmb]
  exact Fin.exists_succ_eq.symm

/-- Memory held at a share is the same memory held at each of the share's parts at once. -/
theorem pointsTo_cut {ℓ : Loc nD τ sig} (I : Finset (Idx ℓ)) (f : Buf (Elt F) ℓ) :
    ∀ (n : ℕ) (q : PosShare TreeShare), (ℓ ↦[I]{q} f : sProp 𝕄) = bigSep Finset.univ fun i : Fin (n + 1) => ℓ ↦[I]{cut n q i} f
  | 0, q => (bigSep_univ_of_subsingleton (0 : Fin 1) (Φ := fun i : Fin (0 + 1) => (ℓ ↦[I]{cut 0 q i} f : sProp 𝕄))).symm
  | n + 1, q => by
    have h := pointsTo_share (Ix := Ix) (Name := Name) (U := U) (Lvl := Lvl) (ℓ := ℓ) (I := I) (f := f) (PosShare.mem_left_op_right q)
    rw [BI.Entails.antisymm h.1 h.2, bigSep_univ_at _ 0, univ_erase_zero, bigSep_map, pointsTo_cut I f n q.right]
    rfl

end Cert.Proof
-- ==== Proof.OffI.lean ====
/-
  The closed forms of the kernel's offsets, conditions and trip counts, by the tile: a tile works on the band `band i` of
  64 rows and the strip `strip i` of 128 pixels.
-/
module

public import proofs.«01_k».proof.Proof.Gen.KernelIdeal
public import proofs.«01_k».proof.Proof.Spec
public import Idealize.ShloMosaic.Lib.Tactic

@[expose] public section

namespace Cert.KernelIdeal

open Idealize.ShloMosaic

/-- The tile's band of rows, and its strip of pixels. -/
def band (i : grid0.Coords) : ℕ := (2 * (i 1).val + (i 0).val) / 4
def strip (i : grid0.Coords) : ℕ := (2 * (i 1).val + (i 0).val) % 4

theorem strip_lt (i : grid0.Coords) : strip i < 4 := by unfold strip; omega
theorem band_lt : ∀ i : grid0.Coords, band i < 8 := by decide +kernel

theorem t1_trips : k0_t1_loop.trips = 80 := by decide +kernel
theorem t2_trips : k0_t2_loop.trips = 80 := by decide +kernel
theorem t3_trips : k0_t3_loop.trips = 40 := by decide +kernel
theorem t5_trips : k0_t5_loop.trips = 80 := by decide +kernel
theorem t6_trips : k0_t6_loop.trips = 40 := by decide +kernel
theorem t7_trips : k0_t7_loop.trips = 80 := by decide +kernel
theorem t4_trips : ∀ i : grid0.Coords, (k0_t4_loop i).trips = 64 := by decide +kernel
theorem t8_trips : ∀ i : grid0.Coords, (k0_t8_loop i).trips = 0 := by decide +kernel

theorem cond1_iff : ∀ i : grid0.Coords, k0_cond1 i = 1#1 ↔ 0 < band i := by decide +kernel
theorem cond2_iff : ∀ i : grid0.Coords, k0_cond2 i = 1#1 ↔ band i = 0 := by decide +kernel
theorem cond3_iff : ∀ i : grid0.Coords, k0_cond3 i = 1#1 ↔ 0 < strip i := by decide +kernel
theorem cond4_iff : ∀ (i : grid0.Coords) (t : Fin (k0_t4_loop i).trips), k0_cond4 i t = 1#1 ↔ 64 * band i + t.val + 1 < 512 := by decide +kernel
theorem cond5_iff : ∀ (i : grid0.Coords) (t : Fin (k0_t4_loop i).trips), k0_cond5 i t = 1#1 ↔ 64 * band i + t.val + 1 = 512 := by decide +kernel
theorem cond6_iff : ∀ i : grid0.Coords, k0_cond6 i = 1#1 ↔ strip i < 3 := by decide +kernel

theorem off1_eq : ∀ i : grid0.Coords, 0 < band i → k0_off1 i = ![86016] := by decide +kernel
theorem off2_eq : ∀ i : grid0.Coords, 0 < band i → k0_off2 i = ![64 * band i - 1, 28672 * strip i] := by decide +kernel
theorem off4_eq : ∀ (i : grid0.Coords), 0 < band i → ∀ t : Fin k0_t1_loop.trips, k0_off4 i t = ![3840 + 16 * t.val] := by decide +kernel
theorem off5_eq : ∀ i : grid0.Coords, k0_off5 i = ![0] := by decide +kernel
theorem off6_eq : ∀ i : grid0.Coords, k0_off6 i = ![64 * band i, 28672 * strip i] := by decide +kernel
theorem off8_eq : ∀ (i : grid0.Coords) (t : Fin k0_t2_loop.trips), k0_off8 i t = ![16 * t.val] := by decide +kernel
theorem off9_eq : ∀ i : grid0.Coords, 0 < strip i → k0_off9 i = ![0, 28672 * strip i - 224] := by decide +kernel
theorem off11_eq : ∀ (i : grid0.Coords) (t : Fin (k0_t4_loop i).trips), k0_off11 i t = ![28672 * ((64 * band i + t.val + 1) % 4)] := by decide +kernel
theorem off12_eq : ∀ (i : grid0.Coords) (t : Fin (k0_t4_loop i).trips), k0_off12 i t = ![64 * band i + t.val + 1, 28672 * strip i] := by decide +kernel
theorem off15_eq : ∀ i : grid0.Coords, strip i < 3 → k0_off15 i = ![511, 28672 * strip i + 28672] := by decide +kernel
theorem off19_eq : ∀ (i : grid0.Coords) (t : Fin (k0_t4_loop i).trips), k0_off19 i t = ![28672 * ((64 * band i + t.val) % 4)] := by decide +kernel
theorem off20_eq : ∀ (i : grid0.Coords) (t : Fin (k0_t4_loop i).trips), k0_off20 i t = ![64 * band i + t.val, 28672 * strip i] := by decide +kernel

/-- An offset that is a word not depending on the inner trip plus sixteen times the trip. -/
theorem off14_word (i : grid0.Coords) (t : Fin (k0_t4_loop i).trips) : ∃ A : BitVec 32, ∀ t5 : Fin k0_t5_loop.trips,
    k0_off14 i t t5 = ![(A + Scf.iv 0#32 1#32 t5.val * 16#32).toNat] := ⟨_, fun _ => rfl⟩

theorem off14_zero : ∀ (i : grid0.Coords) (t : Fin (k0_t4_loop i).trips),
    k0_off14 i t ⟨0, by decide +kernel⟩ = ![1280 * ((64 * band i + t.val + 1) % 4)] := by decide +kernel

theorem trip_word (k : ℕ) (h : k < 80) : (Scf.iv 0#32 1#32 k * 16#32).toNat = 16 * k := by
  unfold Scf.iv
  rw [BitVec.toNat_mul, BitVec.zero_add, BitVec.mul_one, BitVec.toNat_ofNat, BitVec.toNat_ofNat]
  omega

theorem off14_eq (i : grid0.Coords) (t : Fin (k0_t4_loop i).trips) (t5 : Fin k0_t5_loop.trips) :
    k0_off14 i t t5 = ![1280 * ((64 * band i + t.val + 1) % 4) + 16 * t5.val] := by
  obtain ⟨A, hA⟩ := off14_word i t
  have h0 := (hA ⟨0, by decide +kernel⟩).symm.trans (off14_zero i t)
  have h0 : (A + Scf.iv 0#32 1#32 0 * 16#32).toNat = 1280 * ((64 * band i + t.val + 1) % 4) := congrFun h0 0
  rw [hA t5]
  have h5 : t5.val < 80 := t5_trips ▸ t5.isLt
  rw [BitVec.toNat_add, trip_word 0 (by omega)] at h0
  rw [BitVec.toNat_add, trip_word _ h5]
  congr 1
  omega

theorem off18_word (i : grid0.Coords) (t : Fin (k0_t4_loop i).trips) : ∃ A B : BitVec 32, ∀ t7 : Fin k0_t7_loop.trips,
    k0_off18 i t t7 = ![((if Scalar.cmpi .slt (Scf.iv 0#32 1#32 t7.val) 40#32 = 1#1 then A else B) * 1280#32 + Scf.iv 0#32 1#32 t7.val * 16#32).toNat] := ⟨_, _, fun _ => rfl⟩

theorem off18_zero : ∀ (i : grid0.Coords) (t : Fin (k0_t4_loop i).trips),
    k0_off18 i t ⟨0, by decide +kernel⟩ = ![1280 * ((64 * band i + t.val + 1) % 4)] := by decide +kernel

theorem off18_forty : ∀ (i : grid0.Coords) (t : Fin (k0_t4_loop i).trips),
    k0_off18 i t ⟨40, by decide +kernel⟩ = ![1280 * ((64 * band i + t.val + 3) % 4) + 640] := by decide +kernel

theorem first_half : ∀ k < 80, Scalar.cmpi .slt (Scf.iv 0#32 1#32 k) 40#32 = 1#1 ↔ k < 40 := by decide +kernel

theorem off18_eq (i : grid0.Coords) (t : Fin (k0_t4_loop i).trips) (t7 : Fin k0_t7_loop.trips) :
    k0_off18 i t t7 = ![1280 * (if t7.val < 40 then (64 * band i + t.val + 1) % 4 else (64 * band i + t.val + 3) % 4) + 16 * t7.val] := by
  obtain ⟨A, B, hA⟩ := off18_word i t
  have h7 : t7.val < 80 := t7_trips ▸ t7.isLt
  rw [hA t7]
  by_cases hlt : t7.val < 40
  · have h0 := congrFun ((hA ⟨0, by decide +kernel⟩).symm.trans (off18_zero i t)) 0
    rw [if_pos ((first_half 0 (by omega)).2 (by omega))] at h0
    rw [if_pos ((first_half _ h7).2 hlt), if_pos hlt]
    have h0 : (A * 1280#32 + Scf.iv 0#32 1#32 0 * 16#32).toNat = 1280 * ((64 * band i + t.val + 1) % 4) := h0
    rw [BitVec.toNat_add, trip_word 0 (by omega)] at h0
    rw [BitVec.toNat_add, trip_word _ h7]
    congr 1
    omega
  · have h0 := congrFun ((hA ⟨40, by decide +kernel⟩).symm.trans (off18_forty i t)) 0
    rw [if_neg fun h => absurd ((first_half 40 (by omega)).1 h) (by omega)] at h0
    rw [if_neg fun h => hlt ((first_half _ h7).1 h), if_neg hlt]
    have h0 : (B * 1280#32 + Scf.iv 0#32 1#32 40 * 16#32).toNat = 1280 * ((64 * band i + t.val + 3) % 4) + 640 := h0
    rw [BitVec.toNat_add, trip_word 40 (by omega)] at h0
    rw [BitVec.toNat_add, trip_word _ h7]
    congr 1
    omega

end Cert.KernelIdeal
-- ==== Proof.PayI.lean ====
/-
  The kernel's vectors of words at a lane: the table's words moved into a slot, the positions the moves read, the places of
  the edge entries, and the masks and selections of the edge steps; and the table itself.
-/
module

public import proofs.«01_k».proof.Proof.OffI
public import proofs.«01_k».proof.Proof.Vectors
public import proofs.«01_k».proof.Proof.Gen.KernelIdeal.Skeleton

@[expose] public section

noncomputable section

namespace Cert.KernelIdeal

open Idealize.ShloMosaic Cert.Proof Cert.KernelIdeal.Gen

variable {F : FTy → Type} [FloatOps F]

/-- The lane numbers. -/
abbrev lane : IVec S16 32 := iota .scVector S16 32 [0] iota_S16_d0_w32_scVector

theorem lane_at : ∀ l < 16, at1 lane l = BitVec.ofNat 32 l := by decide +kernel

theorem lit0_eq : ∀ k : Fin 1312, (lit0 k).toNat = tab k.val := by decide +kernel

theorem slot_next : ∀ (i : grid0.Coords) (t : Fin (k0_t4_loop i).trips),
    Scalar.muli (Scalar.remsi (Scalar.addi (Scf.iv (BitVec.ofNat 32 (64 * band i)) 1#32 t.val) 1#32) 4#32) 28672#32
      = BitVec.ofNat 32 (28672 * ((64 * band i + t.val + 1) % 4)) := by decide +kernel

theorem slot_this : ∀ (i : grid0.Coords) (t : Fin (k0_t4_loop i).trips),
    Scalar.muli (Scalar.remsi (Scf.iv (BitVec.ofNat 32 (64 * band i)) 1#32 t.val) 4#32) 28672#32
      = BitVec.ofNat 32 (28672 * ((64 * band i + t.val) % 4)) := by decide +kernel

theorem slot_first : ∀ (i : grid0.Coords),
    Scalar.muli (Scalar.remsi (BitVec.ofNat 32 (64 * band i)) 4#32) 28672#32 = BitVec.ofNat 32 (28672 * 0) := by decide +kernel

theorem moved {w : BitVec 32} {v : IVec S16 32} {a l : ℕ} (hw : w = BitVec.ofNat 32 (28672 * a)) (ha : a < 4)
    (hv : (at1 v l).toNat < 28672) : (at1 (addi (broadcast S16 w) v) l).toNat = 28672 * a + (at1 v l).toNat := by
  show (w + at1 v l).toNat = _
  rw [BitVec.toNat_add, hw, BitVec.toNat_ofNat]
  omega

theorem pay1_at (i : grid0.Coords) (v : Vec F S16 .i32) (l : ℕ) (hv : (at1 (α := BitVec 32) v l).toNat < 28672) :
    (at1 (k0_pay1 (F := F) (BitVec.ofNat 32 (64 * band i)) v) l).toNat = 28672 * 0 + (at1 (α := BitVec 32) v l).toNat :=
  moved (slot_first i) (by omega) hv

theorem pay6_at (i : grid0.Coords) (t : Fin (k0_t4_loop i).trips) (v : Vec F S16 .i32) (l : ℕ) (hv : (at1 (α := BitVec 32) v l).toNat < 28672) :
    (at1 (k0_pay6 (F := F) i (BitVec.ofNat 32 (64 * band i)) t v) l).toNat = 28672 * ((64 * band i + t.val + 1) % 4) + (at1 (α := BitVec 32) v l).toNat :=
  moved (slot_next i t) (by omega) hv

theorem pay11_at (i : grid0.Coords) (t : Fin (k0_t4_loop i).trips) (v : Vec F S16 .i32) (l : ℕ) (hv : (at1 (α := BitVec 32) v l).toNat < 28672) :
    (at1 (k0_pay11 (F := F) i (BitVec.ofNat 32 (64 * band i)) t v) l).toNat = 28672 * ((64 * band i + t.val) % 4) + (at1 (α := BitVec 32) v l).toNat :=
  moved (slot_this i t) (by omega) hv

/-- The word that moves the table into the last slot is the same slot's offset in the row buffer. -/
theorem pay18_word (i : grid0.Coords) : ∃ w : BitVec 32, (∀ v : Vec F S16 .i32, k0_pay18 (F := F) i v = addi (broadcast S16 w) v)
    ∧ k0_off1 i = ![w.toNat] := ⟨_, fun _ => rfl, rfl⟩

theorem pay18_at (i : grid0.Coords) (hb : 0 < band i) (v : Vec F S16 .i32) (l : ℕ) (hv : (at1 (α := BitVec 32) v l).toNat < 28672) :
    (at1 (k0_pay18 (F := F) i v) l).toNat = 28672 * 3 + (at1 (α := BitVec 32) v l).toNat := by
  obtain ⟨w, hw, h0⟩ := pay18_word (F := F) i
  have hw0 : w.toNat = 86016 := congrFun (h0.symm.trans (off1_eq i hb)) 0
  rw [hw]
  exact moved (BitVec.eq_of_toNat_eq (by rw [hw0]; rfl)) (by omega) hv

theorem pay2_at (t : Fin k0_t3_loop.trips) (l : ℕ) (hl : l < 16) : (at1 (k0_pay2 lane t) l).toNat = 639 + 16 * t.val + l := by
  have ht : t.val < 40 := t3_trips ▸ t.isLt
  show (at1 lane l + (640#32 + Scf.iv 0#32 1#32 t.val * 16#32 - 1#32)).toNat = _
  rw [lane_at l hl, BitVec.toNat_add, BitVec.toNat_sub, BitVec.toNat_add, trip_word _ (by omega), BitVec.toNat_ofNat]
  simp only [BitVec.toNat_ofNat]
  omega

theorem pay7_at (t : Fin k0_t6_loop.trips) (l : ℕ) (hl : l < 16) : (at1 (k0_pay7 lane t) l).toNat = 3841 + 16 * t.val + l := by
  have ht : t.val < 40 := t6_trips ▸ t.isLt
  show (at1 lane l + (3840#32 + Scf.iv 0#32 1#32 t.val * 16#32 + 1#32)).toNat = _
  rw [lane_at l hl, BitVec.toNat_add, BitVec.toNat_add, BitVec.toNat_add, trip_word _ (by omega), BitVec.toNat_ofNat]
  simp only [BitVec.toNat_ofNat]
  omega

theorem pay4_at : ∀ l < 5, (at1 (k0_pay4 lane) l).toNat = 4480 + 128 * l := by decide +kernel
theorem pay4_lt : ∀ l < 16, (at1 (k0_pay4 lane) l).toNat < 5120 := by decide +kernel
theorem pay9_at : ∀ l < 5, (at1 (k0_pay9 lane) l).toNat = 127 + 128 * l := by decide +kernel
theorem pay9_lt : ∀ l < 16, (at1 (k0_pay9 lane) l).toNat < 5120 := by decide +kernel
theorem pay5_at : ∀ l < 16, at1 (k0_pay5 lane) l = 1 ↔ l < 5 := by decide +kernel
theorem pay10_at : ∀ l < 16, at1 (k0_pay10 lane) l = 1 ↔ l < 5 := by decide +kernel

theorem inner_strip : ∀ i : grid0.Coords, IntOp.cmpi .sgt (BitVec.ofNat 32 (strip i)) 0#32 = 1 ↔ 0 < strip i := by decide +kernel
theorem outer_strip : ∀ i : grid0.Coords, IntOp.cmpi .slt (BitVec.ofNat 32 (strip i)) 3#32 = 1 ↔ strip i < 3 := by decide +kernel

/-- The zero past the end of the array. -/
abbrev zero0 : F .f32 := FloatOps.ofBits .f32 0#32

theorem pay3_at (i : grid0.Coords) (g : Vec F S16 .f32) (l : ℕ) :
    at1 (k0_pay3 (F := F) (BitVec.ofNat 32 (strip i)) g) l = if 0 < strip i then at1 (α := F .f32) g l else zero0 :=
  if_congr (inner_strip i) rfl rfl

theorem pay8_at (i : grid0.Coords) (g : Vec F S16 .f32) (l : ℕ) :
    at1 (k0_pay8 (F := F) (BitVec.ofNat 32 (strip i)) g) l = if strip i < 3 then at1 (α := F .f32) g l else zero0 :=
  if_congr (outer_strip i) rfl rfl

end Cert.KernelIdeal
-- ==== Proof.TileI.lean ====
/-
  One tile's task, as the launch theorem asks for it: its programs, the resources it holds, and what it leaves.
-/
module

public import proofs.«01_k».proof.Defs
public import proofs.«01_k».proof.Proof.Steps
public import proofs.«01_k».proof.Proof.Windows
public import proofs.«01_k».proof.Proof.Spec
public import proofs.«01_k».proof.Proof.OffI
public import proofs.«01_k».proof.Proof.PayI
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Task

open Cert.KernelIdeal Cert.KernelIdeal.Gen Cert.Proof

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev 𝒱₀ : Variants := Variants.none

/-- The resource algebra: the hand-over rounds and the copies' counters. -/
abbrev UH : Type := URounds (GSem nD τ sig) ℕ
abbrev UU : Type := UH × Counters

local notation "𝕄" => MT nD τ sig (HIx 1) (Elt F) ℕ UU ℕ

variable (d : Dev nD) (i : grid0.Coords)

/-- The tile at the coordinates `i`. -/
abbrev tile : Thread nD τ := V d ((i 0).castLE hcore0) ((i 1).castLE hsub0)

/-! The kernel's operands, scratch buffers and semaphores, in its order: the array, the table, the result; the four row
    slots, the side buffer, the table's copy, the neighbour's column; the ten copies' semaphores. -/

variable (mx : Memref sig .scVector .hbm S512x114688 .f32) (hx : mx.IsWhole)
variable (mt : Memref sig .scVector .hbm S1312 .i32) (ht : mt.IsWhole)
variable (mo : Memref sig .scVector .hbm S512x114688 .f32) (ho : mo.IsWhole)
variable (mb : Memref sig .scVector .vmem S114688 .f32) (hb : mb.IsWhole)
variable (ms : Memref sig .scVector .vmem S5120 .f32) (hs : ms.IsWhole)
variable (mi : Memref sig .scVector .vmem S1312 .i32) (hi : mi.IsWhole)
variable (me : Memref sig .scVector .vmem S224 .f32) (he : me.IsWhole)
variable (s0 s1 s2 s3 s4 s5 s6 s7 s8 s9 : DmaSems sig S_)

variable (bd : Option 𝒱₀.V) (E : Set ℕ)

/-! ## The inner loops -/

variable {fI : mi.view.ty.Contents (Elt F)} {fB : mb.view.ty.Contents (Elt F)}

/-- Row `64 * band`'s marked entries, saved in slot 0. -/
theorem loop2 (hI : ∀ k < 1312, BitVec.toNat (rd mi fI k) = tab k) (fS : ms.view.ty.Contents (Elt F)) :
    iprop((mi.view.loc (tile d i) ↦[mi.view.set]{fullShare} fI) ∗ (mb.view.loc (tile d i) ↦[mb.view.set]{fullShare} fB) ∗ (ms.view.loc (tile d i) ↦[ms.view.set]{fullShare} fS))
      ⊢ (wp frame (wpE (defs₀ (F := F)) 𝒱₀ (tile d i) bd) E
          (Scf.Loop.for k0_t2_loop k0_t2_ok 0#32 (k0_t2_body i mx hx mt ht mo ho mb hb ms hs mi hi me he s0 s1 s2 s3 s4 s5 s6 s7 s8 s9 (BitVec.ofNat 32 (64 * band i)))) fun _ =>
          iprop((mi.view.loc (tile d i) ↦[mi.view.set]{fullShare} fI) ∗ (mb.view.loc (tile d i) ↦[mb.view.set]{fullShare} fB) ∗
            ∃ fS' : ms.view.ty.Contents (Elt F), ⌜∀ n < 5120, rd ms fS' n
                = if 1280 * 0 ≤ n ∧ n < 1280 * 0 + 1280 then rd mb fB (28672 * 0 + tab (n - 1280 * 0)) else rd ms fS n⌝
              ∗ (ms.view.loc (tile d i) ↦[ms.view.set]{fullShare} fS')) : sProp 𝕄) :=
  wp_gatherLoop (defs := defs₀ (F := F)) 𝒱₀ (tile d i) bd E k0_t2_loop k0_t2_ok 0#32 t2_trips _ tab 0
    (fun t acc h fS => wp_gatherTrip (defs := defs₀ (F := F)) 𝒱₀ (tile d i) bd E (m5 := mb) (m6 := ms) (m7 := mi)
      (inb7 := k0_off7_inb t) (inb6 := k0_off8_inb i t) (pay := k0_pay1 (BitVec.ofNat 32 (64 * band i)))
      (chk := k0_chk2) (dec := k0_chk2.dec) (hidx := k0_idx2_inb)
      tab 0 t.val (by omega) h (fun k hk => tab_lt hk) (k0_off7_eq t) ((off8_eq i t).trans (by rw [Nat.mul_zero, Nat.zero_add]))
      (fun v l _ hv => pay1_at i v l hv) (fun w hw => lanes_lt hw) (fun k hk => hI k (by omega))) fS

/-- The row above the band, its marked entries saved in slot 3. -/
theorem loop1 (hc : k0_cond1 i = 1#1) (hI : ∀ k < 1312, BitVec.toNat (rd mi fI k) = tab k) (fS : ms.view.ty.Contents (Elt F)) :
    iprop((mi.view.loc (tile d i) ↦[mi.view.set]{fullShare} fI) ∗ (mb.view.loc (tile d i) ↦[mb.view.set]{fullShare} fB) ∗ (ms.view.loc (tile d i) ↦[ms.view.set]{fullShare} fS))
      ⊢ (wp frame (wpE (defs₀ (F := F)) 𝒱₀ (tile d i) bd) E
          (Scf.Loop.for k0_t1_loop (k0_t1_ok i hc) 0#32 (k0_t1_body i mx hx mt ht mo ho mb hb ms hs mi hi me he s0 s1 s2 s3 s4 s5 s6 s7 s8 s9 hc)) fun _ =>
          iprop((mi.view.loc (tile d i) ↦[mi.view.set]{fullShare} fI) ∗ (mb.view.loc (tile d i) ↦[mb.view.set]{fullShare} fB) ∗
            ∃ fS' : ms.view.ty.Contents (Elt F), ⌜∀ n < 5120, rd ms fS' n
                = if 1280 * 3 ≤ n ∧ n < 1280 * 3 + 1280 then rd mb fB (28672 * 3 + tab (n - 1280 * 3)) else rd ms fS n⌝
              ∗ (ms.view.loc (tile d i) ↦[ms.view.set]{fullShare} fS')) : sProp 𝕄) :=
  wp_gatherLoop (defs := defs₀ (F := F)) 𝒱₀ (tile d i) bd E k0_t1_loop (k0_t1_ok i hc) 0#32 t1_trips _ tab 3
    (fun t acc h fS => wp_gatherTrip (defs := defs₀ (F := F)) 𝒱₀ (tile d i) bd E (m5 := mb) (m6 := ms) (m7 := mi)
      (inb7 := k0_off3_inb i t hc) (inb6 := k0_off4_inb i t hc) (pay := k0_pay18 i) (chk := k0_chk1 i) (dec := k0_chk1.dec i) (hidx := fun w h => k0_idx1_inb i w h hc)
      tab 3 t.val (by omega) h (fun k hk => tab_lt hk) (k0_off3_eq t) (off4_eq i ((cond1_iff i).1 hc) t)
      (fun v l _ hv => pay18_at i ((cond1_iff i).1 hc) v l hv) (fun w hw _ => lanes_lt hw) (fun k hk => hI k (by omega))) fS

/-- The next row's marked entries, saved in its slot. -/
theorem loop5 (t : Fin (k0_t4_loop i).trips) (hc : k0_cond4 i t = 1#1) (hI : ∀ k < 1312, BitVec.toNat (rd mi fI k) = tab k) (fS : ms.view.ty.Contents (Elt F)) :
    iprop((mi.view.loc (tile d i) ↦[mi.view.set]{fullShare} fI) ∗ (mb.view.loc (tile d i) ↦[mb.view.set]{fullShare} fB) ∗ (ms.view.loc (tile d i) ↦[ms.view.set]{fullShare} fS))
      ⊢ (wp frame (wpE (defs₀ (F := F)) 𝒱₀ (tile d i) bd) E
          (Scf.Loop.for k0_t5_loop (k0_t5_ok i t hc) 0#32 (k0_t5_body i mx hx mt ht mo ho mb hb ms hs mi hi me he s0 s1 s2 s3 s4 s5 s6 s7 s8 s9 (BitVec.ofNat 32 (64 * band i)) t hc)) fun _ =>
          iprop((mi.view.loc (tile d i) ↦[mi.view.set]{fullShare} fI) ∗ (mb.view.loc (tile d i) ↦[mb.view.set]{fullShare} fB) ∗
            ∃ fS' : ms.view.ty.Contents (Elt F), ⌜∀ n < 5120, rd ms fS' n
                = if 1280 * ((64 * band i + t.val + 1) % 4) ≤ n ∧ n < 1280 * ((64 * band i + t.val + 1) % 4) + 1280 then rd mb fB (28672 * ((64 * band i + t.val + 1) % 4) + tab (n - 1280 * ((64 * band i + t.val + 1) % 4))) else rd ms fS n⌝
              ∗ (ms.view.loc (tile d i) ↦[ms.view.set]{fullShare} fS')) : sProp 𝕄) :=
  wp_gatherLoop (defs := defs₀ (F := F)) 𝒱₀ (tile d i) bd E k0_t5_loop (k0_t5_ok i t hc) 0#32 t5_trips _ tab ((64 * band i + t.val + 1) % 4)
    (fun t' acc h fS => wp_gatherTrip (defs := defs₀ (F := F)) 𝒱₀ (tile d i) bd E (m5 := mb) (m6 := ms) (m7 := mi)
      (inb7 := k0_off13_inb i t t' hc) (inb6 := k0_off14_inb i t t' hc) (pay := k0_pay6 i (BitVec.ofNat 32 (64 * band i)) t) (chk := k0_chk6 i t) (dec := k0_chk6.dec i t) (hidx := fun w h => k0_idx6_inb i t w h hc)
      tab ((64 * band i + t.val + 1) % 4) t'.val (by omega) h (fun k hk => tab_lt hk) (k0_off13_eq t') (off14_eq i t t')
      (fun v l _ hv => pay6_at i t v l hv) (fun w hw _ => lanes_lt hw) (fun k hk => hI k (by omega))) fS

/-- The topmost row's backward channels, one pixel on, into the second half of slot 3. -/
theorem loop3 (hc : k0_cond2 i = 1#1) (fS : ms.view.ty.Contents (Elt F)) :
    (ms.view.loc (tile d i) ↦[ms.view.set]{fullShare} fS)
      ⊢ (wp frame (wpE (defs₀ (F := F)) 𝒱₀ (tile d i) bd) E
          (Scf.Loop.for k0_t3_loop (k0_t3_ok i hc) 0#32 (k0_t3_body i mx hx mt ht mo ho mb hb ms hs mi hi me he s0 s1 s2 s3 s4 s5 s6 s7 s8 s9 lane hc)) fun _ =>
          iprop(∃ fS' : ms.view.ty.Contents (Elt F), ⌜∀ n < 5120, rd ms fS' n
                = if 4480 ≤ n ∧ n < 4480 + 640 then rd ms fS (639 + (n - 4480)) else rd ms fS n⌝
              ∗ (ms.view.loc (tile d i) ↦[ms.view.set]{fullShare} fS')) : sProp 𝕄) :=
  wp_moveLoop (defs := defs₀ (F := F)) 𝒱₀ (tile d i) bd E k0_t3_loop (k0_t3_ok i hc) 0#32 t3_trips _ 639 4480 (by omega) (by omega)
    (fun t' acc h fS => wp_moveTrip (defs := defs₀ (F := F)) 𝒱₀ (tile d i) bd E (m6 := ms)
      (inb6 := k0_off10_inb i t' hc) (w := k0_pay2 lane t') (chk := k0_chk3 i) (dec := k0_chk3.dec i) (hidx := fun w h => k0_idx3_inb i w h hc)
      (639 + 16 * t'.val) (4480 + 16 * t'.val) (by omega) ((k0_off10_eq t').trans (by rw [Nat.add_comm])) (fun l hl => pay2_at t' l hl) (fun w hw _ => lanes_lt hw)) fS

/-- The bottom row's forward channels, one pixel on, into the first half of slot 0. -/
theorem loop6 (t : Fin (k0_t4_loop i).trips) (hc : k0_cond5 i t = 1#1) (fS : ms.view.ty.Contents (Elt F)) :
    (ms.view.loc (tile d i) ↦[ms.view.set]{fullShare} fS)
      ⊢ (wp frame (wpE (defs₀ (F := F)) 𝒱₀ (tile d i) bd) E
          (Scf.Loop.for k0_t6_loop (k0_t6_ok i t hc) 0#32 (k0_t6_body i mx hx mt ht mo ho mb hb ms hs mi hi me he s0 s1 s2 s3 s4 s5 s6 s7 s8 s9 lane t hc)) fun _ =>
          iprop(∃ fS' : ms.view.ty.Contents (Elt F), ⌜∀ n < 5120, rd ms fS' n
                = if 0 ≤ n ∧ n < 0 + 640 then rd ms fS (3841 + (n - 0)) else rd ms fS n⌝
              ∗ (ms.view.loc (tile d i) ↦[ms.view.set]{fullShare} fS')) : sProp 𝕄) :=
  wp_moveLoop (defs := defs₀ (F := F)) 𝒱₀ (tile d i) bd E k0_t6_loop (k0_t6_ok i t hc) 0#32 t6_trips _ 3841 0 (by omega) (by omega)
    (fun t' acc h fS => wp_moveTrip (defs := defs₀ (F := F)) 𝒱₀ (tile d i) bd E (m6 := ms)
      (inb6 := k0_off16_inb i t t' hc) (w := k0_pay7 lane t') (chk := k0_chk7 i t) (dec := k0_chk7.dec i t) (hidx := fun w h => k0_idx7_inb i t w h hc)
      (3841 + 16 * t'.val) (0 + 16 * t'.val) (by omega) ((k0_off16_eq t').trans (by rw [Nat.zero_add])) (fun l hl => pay7_at t' l hl) (fun w hw _ => lanes_lt hw)) fS

/-- The row put right: every marked entry from the slot that holds it. -/
theorem loop7 (t : Fin (k0_t4_loop i).trips) (hI : ∀ k < 1312, BitVec.toNat (rd mi fI k) = tab k) {fS : ms.view.ty.Contents (Elt F)} (fB : mb.view.ty.Contents (Elt F)) :
    iprop((mi.view.loc (tile d i) ↦[mi.view.set]{fullShare} fI) ∗ (mb.view.loc (tile d i) ↦[mb.view.set]{fullShare} fB) ∗ (ms.view.loc (tile d i) ↦[ms.view.set]{fullShare} fS))
      ⊢ (wp frame (wpE (defs₀ (F := F)) 𝒱₀ (tile d i) bd) E
          (Scf.Loop.for k0_t7_loop k0_t7_ok 0#32 (k0_t7_body i mx hx mt ht mo ho mb hb ms hs mi hi me he s0 s1 s2 s3 s4 s5 s6 s7 s8 s9 (BitVec.ofNat 32 (64 * band i)) t)) fun _ =>
          iprop((mi.view.loc (tile d i) ↦[mi.view.set]{fullShare} fI) ∗ (ms.view.loc (tile d i) ↦[ms.view.set]{fullShare} fS) ∗
            ∃ fB' : mb.view.ty.Contents (Elt F), ⌜(∀ k < 1280, rd mb fB' (28672 * ((64 * band i + t.val) % 4) + tab k)
                  = rd ms fS ((fun k => 1280 * (if k < 40 then (64 * band i + t.val + 1) % 4 else (64 * band i + t.val + 3) % 4) + 16 * k) (k / 16) + k % 16))
                ∧ ∀ n < 114688, (∀ k < 1280, n ≠ 28672 * ((64 * band i + t.val) % 4) + tab k) → rd mb fB' n = rd mb fB n⌝
              ∗ (mb.view.loc (tile d i) ↦[mb.view.set]{fullShare} fB')) : sProp 𝕄) :=
  wp_scatterLoop (defs := defs₀ (F := F)) 𝒱₀ (tile d i) bd E k0_t7_loop k0_t7_ok 0#32 t7_trips _ tab
    (fun k => 1280 * (if k < 40 then (64 * band i + t.val + 1) % 4 else (64 * band i + t.val + 3) % 4) + 16 * k)
    ((64 * band i + t.val) % 4) (by omega) (fun k hk => tab_lt hk) (fun k hk k' hk' e => tab_inj hk hk' e)
    (fun t' acc h fB => wp_scatterTrip (defs := defs₀ (F := F)) 𝒱₀ (tile d i) bd E (m5 := mb) (m6 := ms) (m7 := mi)
      (inb7 := k0_off17_inb t') (inb6 := k0_off18_inb i t t') (pay := k0_pay11 i (BitVec.ofNat 32 (64 * band i)) t)
      (chk := k0_chk10) (dec := k0_chk10.dec) (hidx := k0_idx10_inb)
      tab ((64 * band i + t.val) % 4) t'.val _ (by omega) h (fun k hk => tab_lt hk) (fun k hk k' hk' e => tab_inj hk hk' e)
      (k0_off17_eq t') (off18_eq i t t') (fun v l _ hv => pay11_at i t v l hv) (fun w hw => lanes_lt hw) (fun k hk => hI k (by omega))) fB

/-! ## One row -/

/-- The tile's rows and columns of the result. -/
abbrev block : Rect S512x114688 := Rect.unit (s := S512x114688) ![64 * band i, 28672 * strip i] ![64, 28672]
  (fun a => by
    have := band_lt i
    have := strip_lt i
    match a with
    | ⟨0, _⟩ => show 64 * band i + 64 ≤ 512; omega
    | ⟨1, _⟩ => show 28672 * strip i + 28672 ≤ 114688; omega)

instance closedOff20 (t : Fin (k0_t4_loop i).trips) : ClosedOff (k0_off20 i t) := ⟨![64 * band i + t.val, 28672 * strip i], off20_eq i t⟩

/-- The array's entry in row `r` and column `c`. -/
abbrev entry (fX : mx.view.ty.Contents (Elt F)) (r c : ℕ) : F .f32 := at2 (mx.view.read (Elt F) fX) r c

/-- The rows of the tile's block before row `r` hold their results. -/
def Done (fX : mx.view.ty.Contents (Elt F)) (r : ℕ) (fO : mo.view.ty.Contents (Elt F)) : Prop :=
  ∀ r' c, 64 * band i ≤ r' → r' < r → 28672 * strip i ≤ c → c < 28672 * strip i + 28672 →
    at2 (mo.view.read (Elt F) fO) r' c = shifted (entry mx fX) zero0 r' c

/-- The waits made so far are the ones made before, and waits for the tile's own copies. -/
def Own (W₀ W : Waits sig (HIx 1)) : Prop := ∀ p ∈ W, p ∈ W₀ ∨ p.2 = none

/-- A row's trip from where the saved slots are complete: put the row right and copy it out. -/
def rowTail (t : Fin (k0_t4_loop i).trips) : Prog (TpuEff nD τ sig (Elt F) Λ₀ (tile d i).2) (BitVec 32) := do
  let _ ← Scf.Loop.for k0_t7_loop k0_t7_ok 0#32 (k0_t7_body i mx hx mt ht mo ho mb hb ms hs mi hi me he s0 s1 s2 s3 s4 s5 s6 s7 s8 s9 (BitVec.ofNat 32 (64 * band i)) t)
  Prog.lift (.enqueueDma (mb.slice (Rect.unit (s := S114688) (k0_off19 i t) S28672.size (k0_off19_inb i t)) (fun _ => rfl))
    (.here ((mo.slice (Rect.unit (s := S512x114688) (k0_off20 i t) S1x28672.size (k0_off20_inb i t)) (fun _ => rfl)).squeeze S28672 squeezes_S1x28672_S28672))
    (.dma s6.sem) (View.wordExact_bits rfl) ((View.wordExact_bits rfl).reshape _ _) ⟨Or.inl rfl, trivial⟩)
  Prog.lift (.waitDma2 s6.sem (mb.slice (Rect.unit (s := S114688) (k0_off19 i t) S28672.size (k0_off19_inb i t)) (fun _ => rfl))
    ((mo.slice (Rect.unit (s := S512x114688) (k0_off20 i t) S1x28672.size (k0_off20_inb i t)) (fun _ => rfl)).squeeze S28672 squeezes_S1x28672_S28672)
    (View.wordExact_bits rfl) ((View.wordExact_bits rfl).reshape _ _))
  pure 0#32

set_option sl_exec.dmaWindow true in
theorem wp_rowTail (t : Fin (k0_t4_loop i).trips) (hI : ∀ k < 1312, BitVec.toNat (rd mi fI k) = tab k)
    {O : CellTallies nD τ sig (HIx 1)} {W₀ W : Waits sig (HIx 1)} {fX : mx.view.ty.Contents (Elt F)}
    {fS : ms.view.ty.Contents (Elt F)} {fO : mo.view.ty.Contents (Elt F)}
    (hN : NextOk (entry mx fX) zero0 (strip i) (64 * band i + t.val) (rd mb fB) (rd ms fS))
    (hD : Done i mx mo fX (64 * band i + t.val) fO) (hW : Own W₀ W) :
    iprop(Transfers.MayWaits (tile d i) (default : HIx 1) O
      ∗ (mi.view.loc (tile d i) ↦[mi.view.set]{fullShare} fI) ∗ (mb.view.loc (tile d i) ↦[mb.view.set]{fullShare} fB)
      ∗ (ms.view.loc (tile d i) ↦[ms.view.set]{fullShare} fS)
      ∗ (mo.view.loc (tile d i) ↦[mo.view.setOn (block i).set]{fullShare} fO)
      ∗ semVal (tile d i, .dma s6.sem) 0 ∗ owes (tile d i) O W)
      ⊢ (wp frame (wpE (defs₀ (F := F)) 𝒱₀ (tile d i) bd) Set.univ
          (rowTail d i mx hx mt ht mo ho mb hb ms hs mi hi me he s0 s1 s2 s3 s4 s5 s6 s7 s8 s9 t) fun _ =>
          iprop(Transfers.MayWaits (tile d i) (default : HIx 1) O
            ∗ (mi.view.loc (tile d i) ↦[mi.view.set]{fullShare} fI) ∗ (ms.view.loc (tile d i) ↦[ms.view.set]{fullShare} fS)
            ∗ semVal (tile d i, .dma s6.sem) 0
            ∗ ∃ (fB' : mb.view.ty.Contents (Elt F)) (fO' : mo.view.ty.Contents (Elt F)) (W' : Waits sig (HIx 1)),
              ⌜RowOk (entry mx fX) zero0 (strip i) (64 * band i + (t.val + 1)) (rd mb fB') (rd ms fS)
                ∧ Done i mx mo fX (64 * band i + (t.val + 1)) fO' ∧ Own W₀ W'⌝
              ∗ (mb.view.loc (tile d i) ↦[mb.view.set]{fullShare} fB')
              ∗ (mo.view.loc (tile d i) ↦[mo.view.setOn (block i).set]{fullShare} fO')
              ∗ owes (tile d i) O W') : sProp 𝕄) := by
  have h64 : t.val < 64 := t4_trips i ▸ t.isLt
  unfold rowTail
  iintro ⟨Hmw, Hi, Hb, Hs, Ho, H6, HO⟩
  rw [wp_bind]
  iapply (wp_wand_r frame (wpE (defs₀ (F := F)) 𝒱₀ (tile d i) bd) Set.univ)
  isplitl [Hi Hb Hs]
  · iapply (loop7 d i mx hx mt ht mo ho mb hb ms hs mi hi me he s0 s1 s2 s3 s4 s5 s6 s7 s8 s9 bd Set.univ t hI fB)
    isplitl [Hi]; · iexact Hi
    isplitl [Hb]; · iexact Hb
    iexact Hs
  iintro %_ ⟨Hi, Hs, %fB', %hB, Hb⟩
  sl_exec
  rw [wp_ret]
  imodintro
  isplitl [Hmw]; · iexact Hmw
  isplitl [Hi]; · iexact Hi
  isplitl [Hs]; · iexact Hs
  isplitl [H6]; · iexact H6
  iexists fB', _, _
  isplitr
  swap
  · isplitl [Hb]; · iexact Hb
    isplitl [Ho]; · iexact Ho
    iexact HO
  ipureintro
  obtain ⟨h1, h2⟩ := hB
  obtain ⟨hrow, hnext⟩ := fix_row hN (buf₁ := rd mb fB') (fun k hk => by
    rw [h1 k hk]
    have e : (if k / 16 < 40 then (64 * band i + t.val + 1) % 4 else (64 * band i + t.val + 3) % 4)
        = if k < 640 then (64 * band i + t.val + 1) % 4 else (64 * band i + t.val + 3) % 4 := by
      split <;> split <;> first | rfl | omega
    show rd ms fS (1280 * (if k / 16 < 40 then (64 * band i + t.val + 1) % 4 else (64 * band i + t.val + 3) % 4) + 16 * (k / 16) + k % 16) = _
    rw [e]
    exact congrArg (rd ms fS) (by omega)) h2
  refine ⟨hnext, fun r c h0 h1 h2 h3 => ?_, fun p hp => ?_⟩
  · refine (write_row mo.view fO (off := k0_off20 i t) _ _ _ r c (by have := band_lt i; omega) (by have := strip_lt i; omega)).trans ?_
    rw [off20_eq]
    show (if r = 64 * band i + t.val ∧ 28672 * strip i ≤ c ∧ c < 28672 * strip i + 28672 then _ else _) = _
    split
    next h =>
      obtain ⟨rfl, -, -⟩ := h
      refine (at1_of_eq _ (ix1 (⟨c - 28672 * strip i, by omega⟩ : Fin 28672)) rfl).symm.trans ?_
      refine (read_stretch mb.view fB' (off := k0_off19 i t) _ _).trans ?_
      rw [off19_eq]
      refine (hrow (c - 28672 * strip i) (by omega)).trans (congrArg _ (by omega))
    next h => exact hD r c h0 (by omega) h2 h3
  · rcases Finset.mem_insert.mp hp with rfl | hp
    · exact Or.inr rfl
    · exact hW p hp

end Cert.KernelIdeal.Task
-- ==== Proof.RowI.lean ====
/-
  One row of a tile's task: the next row brought in, or the edge below the last row, and the row put right and copied out.
-/
module

public import proofs.«01_k».proof.Defs
public import proofs.«01_k».proof.Proof.TileI
public import proofs.«01_k».proof.Proof.Steps
public import proofs.«01_k».proof.Proof.Windows
public import proofs.«01_k».proof.Proof.Spec
public import proofs.«01_k».proof.Proof.OffI
public import proofs.«01_k».proof.Proof.PayI
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Task

open Cert.KernelIdeal Cert.KernelIdeal.Gen Cert.Proof

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

variable (mx : Memref sig .scVector .hbm S512x114688 .f32) (hx : mx.IsWhole)
variable (mt : Memref sig .scVector .hbm S1312 .i32) (ht : mt.IsWhole)
variable (mo : Memref sig .scVector .hbm S512x114688 .f32) (ho : mo.IsWhole)
variable (mb : Memref sig .scVector .vmem S114688 .f32) (hb : mb.IsWhole)
variable (ms : Memref sig .scVector .vmem S5120 .f32) (hs : ms.IsWhole)
variable (mi : Memref sig .scVector .vmem S1312 .i32) (hi : mi.IsWhole)
variable (me : Memref sig .scVector .vmem S224 .f32) (he : me.IsWhole)
variable (s0 s1 s2 s3 s4 s5 s6 s7 s8 s9 : DmaSems sig S_)

variable (bd : Option 𝒱₀.V)

variable {fI : mi.view.ty.Contents (Elt F)}

/-- What changes from row to row: the row slots, the side buffer, the neighbour's column, the result, the waits made. -/
structure At where
  B : mb.view.ty.Contents (Elt F)
  S : ms.view.ty.Contents (Elt F)
  E : me.view.ty.Contents (Elt F)
  O : mo.view.ty.Contents (Elt F)
  W : Waits sig (HIx 1)

/-- The memory that changes from row to row, at the contents `a`. -/
abbrev Now (O : CellTallies nD τ sig (HIx 1)) (a : At (F := F) mo mb ms me) : sProp 𝕄 :=
  iprop((mb.view.loc (tile d i) ↦[mb.view.set]{fullShare} a.B) ∗ (ms.view.loc (tile d i) ↦[ms.view.set]{fullShare} a.S)
    ∗ (me.view.loc (tile d i) ↦[me.view.set]{fullShare} a.E) ∗ (mo.view.loc (tile d i) ↦[mo.view.setOn (block i).set]{fullShare} a.O)
    ∗ owes (tile d i) O a.W)

/-- The memory that every row's trip gives back as it was: a share of the array, the table, three idle semaphores. -/
abbrev Kept (q : PosShare TreeShare) (O : CellTallies nD τ sig (HIx 1)) (fX : mx.view.ty.Contents (Elt F)) (fI : mi.view.ty.Contents (Elt F)) : sProp 𝕄 :=
  iprop(Transfers.MayWaits (tile d i) (default : HIx 1) O ∗ (mx.view.loc (tile d i) ↦[mx.view.set]{q} fX)
    ∗ (mi.view.loc (tile d i) ↦[mi.view.set]{fullShare} fI)
    ∗ semVal (tile d i, .dma s4.sem) 0 ∗ semVal (tile d i, .dma s5.sem) 0 ∗ semVal (tile d i, .dma s6.sem) 0)

/-- Before row `r`: the slots are as row `r` needs them, and the rows before hold their results. -/
def Good (fX : mx.view.ty.Contents (Elt F)) (W₀ : Waits sig (HIx 1)) (r : ℕ) (a : At (F := F) mo mb ms me) : Prop :=
  RowOk (entry mx fX) zero0 (strip i) r (rd mb a.B) (rd ms a.S) ∧ Done i mx mo fX r a.O ∧ Own W₀ a.W

variable {q : PosShare TreeShare} {O : CellTallies nD τ sig (HIx 1)} {W₀ : Waits sig (HIx 1)} {fX : mx.view.ty.Contents (Elt F)}

/-- The row buffer once row `64 * band + t + 1` of the array has been copied into its slot. -/
theorem next_in (t : Fin (k0_t4_loop i).trips) (h4 : k0_cond4 i t = 1#1) (fB : mb.view.ty.Contents (Elt F)) (n : ℕ) (hn : n < 114688)
    (h : (⟨1, ![28672]⟩ : Shape).numel = (⟨2, ![1, 28672]⟩ : Shape).numel) :
    rd mb ((mb.access (Rect.unit (s := S114688) (k0_off11 i t) S28672.size (k0_off11_inb i t h4))).write (Elt F) fB
        (((mx.view.slice (Rect.unit (s := S512x114688) (k0_off12 i t) S1x28672.size (k0_off12_inb i t h4))).reshape S28672 h).read (Elt F) fX) Finset.univ) n
      = if 28672 * ((64 * band i + t.val + 1) % 4) ≤ n ∧ n < 28672 * ((64 * band i + t.val + 1) % 4) + 28672
        then entry mx fX (64 * band i + t.val + 1) (28672 * strip i + (n - 28672 * ((64 * band i + t.val + 1) % 4))) else rd mb fB n := by
  refine (write_at1 mb fB (off := k0_off11 i t) (k0_off11_inb i t h4) _ n hn).trans ?_
  rw [off11_eq]
  show (if 28672 * ((64 * band i + t.val + 1) % 4) ≤ n ∧ n < 28672 * ((64 * band i + t.val + 1) % 4) + 28672 then _ else _) = _
  split
  next hc =>
    refine (read_row mx.view fX (off := k0_off12 i t) _ _ _).trans ?_
    rw [off12_eq, ix1_ofNat_val (by show n - 28672 * ((64 * band i + t.val + 1) % 4) < 28672; omega)]
    rfl
  next hc => rfl

set_option sl_exec.dmaWindow true in
set_option maxRecDepth 100000 in
/-- A row that is not the array's last. -/
theorem row_inside (t : Fin (k0_t4_loop i).trips) (acc : BitVec 32) (hI : ∀ k < 1312, BitVec.toNat (rd mi fI k) = tab k)
    (h4 : k0_cond4 i t = 1#1) (h5 : ¬ k0_cond5 i t = 1#1) (a : At (F := F) mo mb ms me) (ha : Good i mx mo mb ms me fX W₀ (64 * band i + t.val) a) :
    iprop(Kept d i mx mi s4 s5 s6 q O fX fI ∗ Now d i mo mb ms me O a)
      ⊢ (wp frame (wpE (defs₀ (F := F)) 𝒱₀ (tile d i) bd) Set.univ
          (k0_t4_body i mx hx mt ht mo ho mb hb ms hs mi hi me he s0 s1 s2 s3 s4 s5 s6 s7 s8 s9 (BitVec.ofNat 32 (strip i)) (BitVec.ofNat 32 (64 * band i)) lane t acc) fun _ =>
          iprop(Kept d i mx mi s4 s5 s6 q O fX fI
            ∗ ∃ a', ⌜Good i mx mo mb ms me fX W₀ (64 * band i + (t.val + 1)) a'⌝ ∗ Now d i mo mb ms me O a') : sProp 𝕄) := by
  obtain ⟨fB, fS, fE, fO, W⟩ := a
  obtain ⟨hR, hD, hW⟩ := ha
  have hr : 64 * band i + t.val + 1 < 512 := (cond4_iff i t).mp h4
  unfold k0_t4_body
  rw [dif_pos h4, dif_neg h5]
  iintro ⟨⟨Hmw, Hx, Hi, H4, H5, H6⟩, Hb, Hs, He, Ho, HO⟩
  sl_exec
  rw [wp_bind]
  iapply (wp_wand_r frame (wpE (defs₀ (F := F)) 𝒱₀ (tile d i) bd) Set.univ)
  isplitl [Hi Hb Hs]
  · iapply (loop5 d i mx hx mt ht mo ho mb hb ms hs mi hi me he s0 s1 s2 s3 s4 s5 s6 s7 s8 s9 bd Set.univ t h4 hI fS)
    isplitl [Hi]; · iexact Hi
    isplitl [Hb]; · iexact Hb
    iexact Hs
  iintro %_ ⟨Hi, Hb, %fS', %hS, Hs⟩
  iapply (wp_wand_r frame (wpE (defs₀ (F := F)) 𝒱₀ (tile d i) bd) Set.univ)
  isplitl [Hmw Hi Hb Hs Ho H6 HO]
  · iapply (wp_rowTail d i mx hx mt ht mo ho mb hb ms hs mi hi me he s0 s1 s2 s3 s4 s5 s6 s7 s8 s9 bd t hI (W₀ := W₀) (fX := fX) (fS := fS') (next_row hr hR (fun n hn => next_in i mx mb t h4 fB n hn _) hS) hD ?_)
    rotate_left
    · isplitl [Hmw]; · iexact Hmw
      isplitl [Hi]; · iexact Hi
      isplitl [Hb]; · iexact Hb
      isplitl [Hs]; · iexact Hs
      isplitl [Ho]; · iexact Ho
      isplitl [H6]; · iexact H6
      iexact HO
    · intro p hp
      rcases Finset.mem_insert.mp hp with rfl | hp
      · exact Or.inr rfl
      · exact hW p hp
  iintro %_ ⟨Hmw, Hi, Hs, H6, %fB', %fO', %W', %hG, Hb, Ho, HO⟩
  isplitl [Hmw Hx Hi H4 H5 H6]
  · isplitl [Hmw]; · iexact Hmw
    isplitl [Hx]; · iexact Hx
    isplitl [Hi]; · iexact Hi
    isplitl [H4]; · iexact H4
    isplitl [H5]; · iexact H5
    iexact H6
  iexists ⟨fB', fS', fE, fO', W'⟩
  isplitr
  · ipureintro
    exact hG
  isplitl [Hb]; · iexact Hb
  isplitl [Hs]; · iexact Hs
  isplitl [He]; · iexact He
  isplitl [Ho]; · iexact Ho
  iexact HO

/-! ### The array's last row -/

/-- The last row's trip from where the column beyond the strip has been brought in. -/
def bottomRest (t : Fin (k0_t4_loop i).trips) (h5 : k0_cond5 i t = 1#1) : Prog (TpuEff nD τ sig (Elt F) Λ₀ (tile d i).2) (BitVec 32) := do
  let _ ← Scf.Loop.for k0_t6_loop (k0_t6_ok i t h5) 0#32 (k0_t6_body i mx hx mt ht mo ho mb hb ms hs mi hi me he s0 s1 s2 s3 s4 s5 s6 s7 s8 s9 lane t h5)
  edgeStep (tile d i) ms mi me inb_S1312_S16_1296 (k0_chk8 i t) (k0_chk8.dec i t) (fun w h => k0_idx8_inb i t w h h5)
    (k0_pay9 lane) (k0_chk9 i t) (k0_chk9.dec i t) (fun w h => k0_idx9_inb i t w h h5) (k0_pay8 (BitVec.ofNat 32 (strip i))) (k0_pay10 lane)
    (View.loadsAt_vmem h_S16) (View.loads_vmem h_S224) (View.stores_vmem_bits_univ h_S5120 rfl)
  rowTail d i mx hx mt ht mo ho mb hb ms hs mi hi me he s0 s1 s2 s3 s4 s5 s6 s7 s8 s9 t

theorem wp_bottomRest (t : Fin (k0_t4_loop i).trips) (hI : ∀ k < 1312, BitVec.toNat (rd mi fI k) = tab k)
    (h5 : k0_cond5 i t = 1#1) (a : At (F := F) mo mb ms me) (ha : Good i mx mo mb ms me fX W₀ (64 * band i + t.val) a)
    (hE : strip i < 3 → ∀ k < 224, rd me a.E k = entry mx fX 511 (28672 * strip i + 28672 + k)) :
    iprop(Kept d i mx mi s4 s5 s6 q O fX fI ∗ Now d i mo mb ms me O a)
      ⊢ (wp frame (wpE (defs₀ (F := F)) 𝒱₀ (tile d i) bd) Set.univ
          (bottomRest d i mx hx mt ht mo ho mb hb ms hs mi hi me he s0 s1 s2 s3 s4 s5 s6 s7 s8 s9 t h5) fun _ =>
          iprop(Kept d i mx mi s4 s5 s6 q O fX fI
            ∗ ∃ a', ⌜Good i mx mo mb ms me fX W₀ (64 * band i + (t.val + 1)) a'⌝ ∗ Now d i mo mb ms me O a') : sProp 𝕄) := by
  obtain ⟨fB, fS, fE, fO, W⟩ := a
  obtain ⟨hR, hD, hW⟩ := ha
  have hr : 64 * band i + t.val = 511 := by have := (cond5_iff i t).mp h5; omega
  unfold bottomRest
  iintro ⟨⟨Hmw, Hx, Hi, H4, H5, H6⟩, Hb, Hs, He, Ho, HO⟩
  rw [wp_bind]
  iapply (wp_wand_r frame (wpE (defs₀ (F := F)) 𝒱₀ (tile d i) bd) Set.univ)
  isplitl [Hs]
  · iapply (loop6 d i mx hx mt ht mo ho mb hb ms hs mi hi me he s0 s1 s2 s3 s4 s5 s6 s7 s8 s9 bd Set.univ t h5 fS)
    iexact Hs
  iintro %_ ⟨%fS', %hS, Hs⟩
  rw [wp_bind]
  iapply (wp_wand_r frame (wpE (defs₀ (F := F)) 𝒱₀ (tile d i) bd) Set.univ)
  isplitl [Hi He Hs]
  · iapply (wp_edgeStep (defs := defs₀ (F := F)) 𝒱₀ (tile d i) bd Set.univ tab 1296 127 (by omega) (fun l hl => tab_edge_lt (by omega)) rfl
      pay9_at pay9_lt pay10_at (fun w hw _ => lanes_lt hw) (fun w hw _ => lanes_lt hw)
      (fun l => if strip i < 3 then entry mx fX 511 (28672 * strip i + 28672 + chan l) else zero0)
      (fun g hg l hl => by
        refine (pay8_at i g l).trans (if_ctx_congr Iff.rfl (fun h => ?_) fun _ => rfl)
        rw [← tab_behind hl, ← hE h _ (tab_edge_lt (by omega))]
        exact hg l (by omega)) hI)
    isplitl [Hi]; · iexact Hi
    isplitl [He]; · iexact He
    iexact Hs
  iintro %_ ⟨Hi, He, %fS'', %hS', Hs⟩
  iapply (wp_wand_r frame (wpE (defs₀ (F := F)) 𝒱₀ (tile d i) bd) Set.univ)
  isplitl [Hmw Hi Hb Hs Ho H6 HO]
  · iapply (wp_rowTail d i mx hx mt ht mo ho mb hb ms hs mi hi me he s0 s1 s2 s3 s4 s5 s6 s7 s8 s9 bd t hI (W₀ := W₀) (fX := fX) (fS := fS'') (by
      rw [hr] at hR ⊢
      exact next_bottom (strip_lt i) hR _ (fun n hn => (hS n hn).trans (if_congr (by omega) (congrArg _ (by omega)) rfl)) (fun l _ => rfl) hS'.1 hS'.2) hD hW)
    isplitl [Hmw]; · iexact Hmw
    isplitl [Hi]; · iexact Hi
    isplitl [Hb]; · iexact Hb
    isplitl [Hs]; · iexact Hs
    isplitl [Ho]; · iexact Ho
    isplitl [H6]; · iexact H6
    iexact HO
  iintro %_ ⟨Hmw, Hi, Hs, H6, %fB', %fO', %W', %hG, Hb, Ho, HO⟩
  isplitl [Hmw Hx Hi H4 H5 H6]
  · isplitl [Hmw]; · iexact Hmw
    isplitl [Hx]; · iexact Hx
    isplitl [Hi]; · iexact Hi
    isplitl [H4]; · iexact H4
    isplitl [H5]; · iexact H5
    iexact H6
  iexists ⟨fB', fS'', fE, fO', W'⟩
  isplitr
  · ipureintro
    exact hG
  isplitl [Hb]; · iexact Hb
  isplitl [Hs]; · iexact Hs
  isplitl [He]; · iexact He
  isplitl [Ho]; · iexact Ho
  iexact HO

/-- The column buffer once 224 entries of a row of the array have been copied into it. -/
theorem column_in {off : Fin 2 → ℕ} (inb : ∀ a : Fin 2, off a + S1x224.size a ≤ S512x114688.size a) (fE : me.view.ty.Contents (Elt F))
    (h : (⟨1, ![224]⟩ : Shape).numel = (⟨2, ![1, 224]⟩ : Shape).numel) (k : ℕ) (hk : k < 224) :
    rd me (me.view.writes (Elt F) fE [⟨Rect.whole S224, ((mx.view.slice (Rect.unit (s := S512x114688) off S1x224.size inb)).reshape S224 h).read (Elt F) fX⟩]) k
      = entry mx fX (off 0) (off 1 + k) := by
  unfold rd
  rw [View.writes_singleton, show me.view.read (Elt F) ((me.view.slice (Rect.whole S224)).write (Elt F) fE _ Finset.univ) = _ from read_whole_write me fE _]
  refine (read_row mx.view fX (off := off) _ _ _).trans ?_
  rw [ix1_ofNat_val hk]

set_option sl_exec.dmaWindow true in
set_option maxHeartbeats 2000000 in
/-- The array's last row. -/
theorem row_bottom (t : Fin (k0_t4_loop i).trips) (acc : BitVec 32) (hI : ∀ k < 1312, BitVec.toNat (rd mi fI k) = tab k)
    (h4 : ¬ k0_cond4 i t = 1#1) (h5 : k0_cond5 i t = 1#1) (a : At (F := F) mo mb ms me) (ha : Good i mx mo mb ms me fX W₀ (64 * band i + t.val) a) :
    iprop(Kept d i mx mi s4 s5 s6 q O fX fI ∗ Now d i mo mb ms me O a)
      ⊢ (wp frame (wpE (defs₀ (F := F)) 𝒱₀ (tile d i) bd) Set.univ
          (k0_t4_body i mx hx mt ht mo ho mb hb ms hs mi hi me he s0 s1 s2 s3 s4 s5 s6 s7 s8 s9 (BitVec.ofNat 32 (strip i)) (BitVec.ofNat 32 (64 * band i)) lane t acc) fun _ =>
          iprop(Kept d i mx mi s4 s5 s6 q O fX fI
            ∗ ∃ a', ⌜Good i mx mo mb ms me fX W₀ (64 * band i + (t.val + 1)) a'⌝ ∗ Now d i mo mb ms me O a') : sProp 𝕄) := by
  unfold k0_t4_body
  rw [dif_neg h4, dif_pos h5]
  by_cases h6 : k0_cond6 i = 1#1
  · rw [dif_pos h6]
    obtain ⟨fB, fS, fE, fO, W⟩ := a
    obtain ⟨hR, hD, hW⟩ := ha
    iintro ⟨⟨Hmw, Hx, Hi, H4, H5, H6⟩, Hb, Hs, He, Ho, HO⟩
    sl_exec
    iapply (show _ ⊢ _ from wp_bottomRest d i mx hx mt ht mo ho mb hb ms hs mi hi me he s0 s1 s2 s3 s4 s5 s6 s7 s8 s9 bd t hI h5 ⟨fB, fS,
        me.view.writes (Elt F) me.view.junk [⟨Rect.whole S224, ((mx.view.slice (Rect.unit (s := S512x114688) (k0_off15 i) S1x224.size (k0_off15_inb i t h5 h6))).reshape S224 rfl).read (Elt F) fX⟩],
        fO, insert (SemLoc.dma s5.sem, default) W⟩ ⟨hR, hD, fun p hp => (Finset.mem_insert.mp hp).elim (fun e => .inr (by rw [e]; rfl)) (hW p)⟩
      (fun h k hk => by
        refine (column_in mx me (off := k0_off15 i) (k0_off15_inb i t h5 h6) me.view.junk rfl k hk).trans ?_
        rw [off15_eq i h]
        rfl))
    isplitl [Hmw Hx Hi H4 H5 H6]
    · isplitl [Hmw]; · iexact Hmw
      isplitl [Hx]; · iexact Hx
      isplitl [Hi]; · iexact Hi
      isplitl [H4]; · iexact H4
      isplitl [H5]; · iexact H5
      iexact H6
    isplitl [Hb]; · iexact Hb
    isplitl [Hs]; · iexact Hs
    isplitl [He]; · iexact He
    isplitl [Ho]; · iexact Ho
    iexact HO
  · rw [dif_neg h6]
    exact wp_bottomRest d i mx hx mt ht mo ho mb hb ms hs mi hi me he s0 s1 s2 s3 s4 s5 s6 s7 s8 s9 bd t hI h5 a ha fun h => absurd ((cond6_iff i).mpr h) h6

/-- A row's trip. -/
theorem row_trip (t : Fin (k0_t4_loop i).trips) (acc : BitVec 32) (hI : ∀ k < 1312, BitVec.toNat (rd mi fI k) = tab k)
    (a : At (F := F) mo mb ms me) (ha : Good i mx mo mb ms me fX W₀ (64 * band i + t.val) a) :
    iprop(Kept d i mx mi s4 s5 s6 q O fX fI ∗ Now d i mo mb ms me O a)
      ⊢ (wp frame (wpE (defs₀ (F := F)) 𝒱₀ (tile d i) bd) Set.univ
          (k0_t4_body i mx hx mt ht mo ho mb hb ms hs mi hi me he s0 s1 s2 s3 s4 s5 s6 s7 s8 s9 (BitVec.ofNat 32 (strip i)) (BitVec.ofNat 32 (64 * band i)) lane t acc) fun _ =>
          iprop(Kept d i mx mi s4 s5 s6 q O fX fI
            ∗ ∃ a', ⌜Good i mx mo mb ms me fX W₀ (64 * band i + (t.val + 1)) a'⌝ ∗ Now d i mo mb ms me O a') : sProp 𝕄) := by
  have h64 : t.val < 64 := t4_trips i ▸ t.isLt
  have hband := band_lt i
  by_cases h4 : k0_cond4 i t = 1#1
  · exact row_inside d i mx hx mt ht mo ho mb hb ms hs mi hi me he s0 s1 s2 s3 s4 s5 s6 s7 s8 s9 bd t acc hI h4 (fun h5 => by
      have := (cond4_iff i t).mp h4
      have := (cond5_iff i t).mp h5
      omega) a ha
  · refine row_bottom d i mx hx mt ht mo ho mb hb ms hs mi hi me he s0 s1 s2 s3 s4 s5 s6 s7 s8 s9 bd t acc hI h4 ?_ a ha
    have : ¬ 64 * band i + t.val + 1 < 512 := fun h => h4 ((cond4_iff i t).mpr h)
    exact (cond5_iff i t).mpr (by omega)

/-- The tile's rows, one after another. -/
theorem rows (hI : ∀ k < 1312, BitVec.toNat (rd mi fI k) = tab k)
    (a : At (F := F) mo mb ms me) (ha : Good i mx mo mb ms me fX W₀ (64 * band i) a) :
    iprop(Kept d i mx mi s4 s5 s6 q O fX fI ∗ Now d i mo mb ms me O a)
      ⊢ (wp frame (wpE (defs₀ (F := F)) 𝒱₀ (tile d i) bd) Set.univ
          (Scf.Loop.for (k0_t4_loop i) (k0_t4_ok i) 0#32
            (k0_t4_body i mx hx mt ht mo ho mb hb ms hs mi hi me he s0 s1 s2 s3 s4 s5 s6 s7 s8 s9 (BitVec.ofNat 32 (strip i)) (BitVec.ofNat 32 (64 * band i)) lane)) fun _ =>
          iprop(Kept d i mx mi s4 s5 s6 q O fX fI
            ∗ ∃ a', ⌜Good i mx mo mb ms me fX W₀ (64 * band i + 64) a'⌝ ∗ Now d i mo mb ms me O a') : sProp 𝕄) := by
  have h := wp_relLoop (defs := defs₀ (F := F)) 𝒱₀ (tile d i) bd Set.univ (k0_t4_loop i) (k0_t4_ok i) 0#32
    (k0_t4_body i mx hx mt ht mo ho mb hb ms hs mi hi me he s0 s1 s2 s3 s4 s5 s6 s7 s8 s9 (BitVec.ofNat 32 (strip i)) (BitVec.ofNat 32 (64 * band i)) lane)
    (Kept d i mx mi s4 s5 s6 q O fX fI) (Now d i mo mb ms me O) (fun k a => Good i mx mo mb ms me fX W₀ (64 * band i + k) a) a ha
    (fun t acc a ha => row_trip d i mx hx mt ht mo ho mb hb ms hs mi hi me he s0 s1 s2 s3 s4 s5 s6 s7 s8 s9 bd t acc hI a ha)
  rw [t4_trips] at h
  exact h

end Cert.KernelIdeal.Task
-- ==== Proof.StartI.lean ====
/-
  A tile's whole task: the table and the first rows brought in, the edge above the first row, and then the rows.
-/
module

public import proofs.«01_k».proof.Defs
public import proofs.«01_k».proof.Proof.RowI
public import proofs.«01_k».proof.Proof.Steps
public import proofs.«01_k».proof.Proof.Windows
public import proofs.«01_k».proof.Proof.Spec
public import proofs.«01_k».proof.Proof.OffI
public import proofs.«01_k».proof.Proof.PayI
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Task

open Cert.KernelIdeal Cert.KernelIdeal.Gen Cert.Proof

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

variable (mx : Memref sig .scVector .hbm S512x114688 .f32) (hx : mx.IsWhole)
variable (mt : Memref sig .scVector .hbm S1312 .i32) (ht : mt.IsWhole)
variable (mo : Memref sig .scVector .hbm S512x114688 .f32) (ho : mo.IsWhole)
variable (mb : Memref sig .scVector .vmem S114688 .f32) (hb : mb.IsWhole)
variable (ms : Memref sig .scVector .vmem S5120 .f32) (hs : ms.IsWhole)
variable (mi : Memref sig .scVector .vmem S1312 .i32) (hi : mi.IsWhole)
variable (me : Memref sig .scVector .vmem S224 .f32) (he : me.IsWhole)
variable (s0 s1 s2 s3 s4 s5 s6 s7 s8 s9 : DmaSems sig S_)

variable (bd : Option 𝒱₀.V)

variable {fI : mi.view.ty.Contents (Elt F)}

variable {q q' : PosShare TreeShare} {O : CellTallies nD τ sig (HIx 1)} {W₀ : Waits sig (HIx 1)} {fX : mx.view.ty.Contents (Elt F)} {fT : mt.view.ty.Contents (Elt F)}

/-- The tile's number, as the kernel computes it. -/
def tileWord (i : grid0.Coords) : BitVec 32 :=
  Scalar.addi (Scalar.muli (BitVec.ofNat 32 (i 1).val) 2#32) (BitVec.ofNat 32 (i 0).val)

/-- The band, as the kernel computes it: a floor division by four. -/
def bandWord (v1 : BitVec 32) : BitVec 32 :=
  Scalar.select
    (Scalar.andi
      (Scalar.cmpi .ne (Scalar.subi (Scalar.extui (Scalar.cmpi .sgt v1 0#32)) (Scalar.extui (Scalar.cmpi .slt v1 0#32)))
        (Scalar.subi (Scalar.extui (Scalar.cmpi .sgt 4#32 0#32)) (Scalar.extui (Scalar.cmpi .slt 4#32 0#32))))
      (Scalar.cmpi .ne (Scalar.remsi v1 4#32) 0#32))
    (Scalar.subi (Scalar.divsi v1 4#32) 1#32) (Scalar.divsi v1 4#32)

/-- The strip, as the kernel computes it: a remainder by four that takes the divisor's sign. -/
def stripWord (v1 : BitVec 32) : BitVec 32 :=
  let v20 : BitVec 32 := Scalar.select (Scalar.cmpi .eq 4#32 0#32) 1#32 4#32
  let v21 : BitVec 32 := Scalar.remsi v1 v20
  Scalar.select (Scalar.andi (Scalar.xori (Scalar.cmpi .slt v21 0#32) (Scalar.cmpi .slt v20 0#32)) (Scalar.cmpi .ne v21 0#32))
    (Scalar.addi v21 v20) v21

theorem bandWord_eq : ∀ i : grid0.Coords, Scalar.muli (bandWord (tileWord i)) 64#32 = BitVec.ofNat 32 (64 * band i) := by decide +kernel

theorem stripWord_eq : ∀ i : grid0.Coords, stripWord (tileWord i) = BitVec.ofNat 32 (strip i) := by decide +kernel

/-- The words the kernel hands on are the strip's number, the band's first row and the lanes' numbers. -/
theorem words (i : grid0.Coords) (a b c : BitVec 32) :
    (⟨a, stripWord (tileWord i), Scalar.muli (bandWord (tileWord i)) 64#32, b, iota .scVector S16 32 [0] iota_S16_d0_w32_scVector, c⟩ :
      Σ' (_ : BitVec 32) (_ : BitVec 32) (_ : BitVec 32) (_ : BitVec 32) (_ : IVec S16 32), BitVec 32)
      = ⟨a, BitVec.ofNat 32 (strip i), BitVec.ofNat 32 (64 * band i), b, lane, c⟩ := by
  rw [stripWord_eq, bandWord_eq]

/-- The row buffer once a row of the array has been copied into a stretch of it. -/
theorem row_in {off : Fin 1 → ℕ} {off' : Fin 2 → ℕ} (inb : ∀ a : Fin 1, off a + S28672.size a ≤ S114688.size a)
    (inb' : ∀ a : Fin 2, off' a + S1x28672.size a ≤ S512x114688.size a) (fB : mb.view.ty.Contents (Elt F)) (n : ℕ) (hn : n < 114688)
    (h : (⟨1, ![28672]⟩ : Shape).numel = (⟨2, ![1, 28672]⟩ : Shape).numel) :
    rd mb ((mb.access (Rect.unit (s := S114688) off S28672.size inb)).write (Elt F) fB
        (((mx.view.slice (Rect.unit (s := S512x114688) off' S1x28672.size inb')).reshape S28672 h).read (Elt F) fX) Finset.univ) n
      = if off 0 ≤ n ∧ n < off 0 + 28672 then entry mx fX (off' 0) (off' 1 + (n - off 0)) else rd mb fB n := by
  refine (write_at1 mb fB (off := off) inb _ n hn).trans ?_
  show (if off 0 ≤ n ∧ n < off 0 + 28672 then _ else _) = _
  split
  next hc =>
    refine (read_row mx.view fX (off := off') _ _ _).trans ?_
    rw [ix1_ofNat_val (by omega)]
  next hc => rfl

/-- The table's copy, once the table has been copied into it whole. -/
theorem table_in (hT : ∀ k < 1312, BitVec.toNat (at1 (mt.view.read (Elt F) fT) k) = tab k) (f : mi.view.ty.Contents (Elt F)) (k : ℕ) (hk : k < 1312) :
    BitVec.toNat (rd mi (mi.view.writes (Elt F) f [⟨Rect.whole S1312, mt.view.read (Elt F) fT⟩]) k) = tab k := by
  unfold rd
  rw [View.writes_singleton, show mi.view.read (Elt F) ((mi.view.slice (Rect.whole S1312)).write (Elt F) f _ Finset.univ) = _ from read_whole_write mi f _]
  exact hT k hk

set_option maxRecDepth 100000 in
set_option maxHeartbeats 2000000 in
set_option sl_exec.dmaWindow true in
/-- The table brought in, and the row above the band, if there is one, with its marked entries saved in slot 3. -/
theorem part1 (hT : ∀ k < 1312, BitVec.toNat (at1 (mt.view.read (Elt F) fT) k) = tab k)
    (gI : mi.view.ty.Contents (Elt F)) (gB : mb.view.ty.Contents (Elt F)) (gS : ms.view.ty.Contents (Elt F)) (W : Waits sig (HIx 1)) (hW : Own W₀ W) :
    iprop(Transfers.MayWaits (tile d i) (default : HIx 1) O ∗ (mx.view.loc (tile d i) ↦[mx.view.set]{q} fX) ∗ (mt.view.loc (tile d i) ↦[mt.view.set]{q'} fT)
      ∗ (mi.view.loc (tile d i) ↦[mi.view.set]{fullShare} gI) ∗ (mb.view.loc (tile d i) ↦[mb.view.set]{fullShare} gB) ∗ (ms.view.loc (tile d i) ↦[ms.view.set]{fullShare} gS)
      ∗ semVal (tile d i, .dma s0.sem) 0 ∗ semVal (tile d i, .dma s1.sem) 0 ∗ owes (tile d i) O W)
      ⊢ (wp frame (wpE (defs₀ (F := F)) 𝒱₀ (tile d i) bd) Set.univ (k0_part1_skel i mx hx mt ht mo ho mb hb ms hs mi hi me he s0 s1 s2 s3 s4 s5 s6 s7 s8 s9) fun r =>
          iprop(Transfers.MayWaits (tile d i) (default : HIx 1) O ∗ (mx.view.loc (tile d i) ↦[mx.view.set]{q} fX) ∗ (mt.view.loc (tile d i) ↦[mt.view.set]{q'} fT)
            ∗ semVal (tile d i, .dma s0.sem) 0 ∗ semVal (tile d i, .dma s1.sem) 0
            ∗ ∃ (fI : mi.view.ty.Contents (Elt F)) (fB : mb.view.ty.Contents (Elt F)) (fS : ms.view.ty.Contents (Elt F)) (W' : Waits sig (HIx 1)),
              ⌜(∃ a b c, r = ⟨a, BitVec.ofNat 32 (strip i), BitVec.ofNat 32 (64 * band i), b, lane, c⟩) ∧ (∀ k < 1312, BitVec.toNat (rd mi fI k) = tab k)
                ∧ (0 < band i → ∀ k < 1280, rd ms fS (1280 * 3 + k) = entry mx fX (64 * band i - 1) (28672 * strip i + tab k)) ∧ Own W₀ W'⌝
              ∗ (mi.view.loc (tile d i) ↦[mi.view.set]{fullShare} fI) ∗ (mb.view.loc (tile d i) ↦[mb.view.set]{fullShare} fB)
              ∗ (ms.view.loc (tile d i) ↦[ms.view.set]{fullShare} fS) ∗ owes (tile d i) O W') : sProp 𝕄) := by
  unfold k0_part1_skel
  dsimp only
  by_cases h1 : k0_cond1 i = 1#1
  · rw [dif_pos h1]
    iintro ⟨Hmw, Hx, Ht, Hi, Hb, Hs, H0, H1, HO⟩
    sl_exec
    rw [wp_bind]
    iapply (wp_wand_r frame (wpE (defs₀ (F := F)) 𝒱₀ (tile d i) bd) Set.univ)
    isplitl [Hi Hb Hs]
    · iapply (loop1 d i mx hx mt ht mo ho mb hb ms hs mi hi me he s0 s1 s2 s3 s4 s5 s6 s7 s8 s9 bd Set.univ h1 (table_in mt mi hT _) gS)
      isplitl [Hi]; · iexact Hi
      isplitl [Hb]; · iexact Hb
      iexact Hs
    iintro %_ ⟨Hi, Hb, %fS', %hS, Hs⟩
    rw [show ∀ {α : Type} (y : α), (pure y : Prog (TpuEff nD τ sig (Elt F) Λ₀ (tile d i).2) α) = .ret y from fun _ => rfl, wp_ret]
    imodintro
    isplitl [Hmw]; · iexact Hmw
    isplitl [Hx]; · iexact Hx
    isplitl [Ht]; · iexact Ht
    isplitl [H0]; · iexact H0
    isplitl [H1]; · iexact H1
    iexists _, _, fS', _
    isplitr
    swap
    · isplitl [Hi]; · iexact Hi
      isplitl [Hb]; · iexact Hb
      isplitl [Hs]; · iexact Hs
      iexact HO
    ipureintro
    have hb0 := (cond1_iff i).mp h1
    refine ⟨⟨_, _, _, words i _ _ _⟩, table_in mt mi hT _, fun _ k hk => ?_, fun p hp => ?_⟩
    · rw [hS _ (by omega), if_pos (by omega), Nat.add_sub_cancel_left]
      have ht := tab_lt (show k < 1280 from hk)
      refine (row_in mx mb (off := k0_off1 i) (off' := k0_off2 i) (k0_off1_inb i h1) (k0_off2_inb i h1) gB _ (by omega) rfl).trans ?_
      rw [off1_eq i hb0, off2_eq i hb0]
      show (if 86016 ≤ 28672 * 3 + tab k ∧ 28672 * 3 + tab k < 86016 + 28672 then entry mx fX (64 * band i - 1) (28672 * strip i + (28672 * 3 + tab k - 86016)) else _) = _
      rw [if_pos (by omega)]
      exact congrArg _ (by omega)
    · rcases Finset.mem_insert.mp hp with rfl | hp
      · exact Or.inr rfl
      rcases Finset.mem_insert.mp hp with rfl | hp
      · exact Or.inr rfl
      · exact hW p hp
  · rw [dif_neg h1]
    iintro ⟨Hmw, Hx, Ht, Hi, Hb, Hs, H0, H1, HO⟩
    sl_exec
    rw [wp_ret]
    imodintro
    isplitl [Hmw]; · iexact Hmw
    isplitl [Hx]; · iexact Hx
    isplitl [Ht]; · iexact Ht
    isplitl [H0]; · iexact H0
    isplitl [H1]; · iexact H1
    iexists _, gB, gS, _
    isplitr
    swap
    · isplitl [Hi]; · iexact Hi
      isplitl [Hb]; · iexact Hb
      isplitl [Hs]; · iexact Hs
      iexact HO
    ipureintro
    refine ⟨⟨_, _, _, words i _ _ _⟩, table_in mt mi hT _, fun h => absurd ((cond1_iff i).mpr h) h1, fun p hp => ?_⟩
    rcases Finset.mem_insert.mp hp with rfl | hp
    · exact Or.inr rfl
    · exact hW p hp

/-! ## The rows, and what goes before them -/

/-- The task from where the first row's slots are complete. -/
def rowsRest : Prog (TpuEff nD τ sig (Elt F) Λ₀ (tile d i).2) PUnit := do
  let v49 : BitVec 32 ← Scf.Loop.for (k0_t4_loop i) (k0_t4_ok i) 0#32 (k0_t4_body i mx hx mt ht mo ho mb hb ms hs mi hi me he s0 s1 s2 s3 s4 s5 s6 s7 s8 s9 (BitVec.ofNat 32 (strip i)) (BitVec.ofNat 32 (64 * band i)) lane)
  let _ ← Scf.Loop.for (k0_t8_loop i) (k0_t8_ok i) v49 (k0_t8_body i mx hx mt ht mo ho mb hb ms hs mi hi me he s0 s1 s2 s3 s4 s5 s6 s7 s8 s9 (BitVec.ofNat 32 (strip i)) (BitVec.ofNat 32 (64 * band i)) lane)
  pure ⟨⟩

/-- What the task leaves: every row of its block holds its result. -/
abbrev Left (q : PosShare TreeShare) (O : CellTallies nD τ sig (HIx 1)) (W₀ : Waits sig (HIx 1)) (fX : mx.view.ty.Contents (Elt F)) (fI : mi.view.ty.Contents (Elt F)) : sProp 𝕄 :=
  iprop(Kept d i mx mi s4 s5 s6 q O fX fI
    ∗ ∃ a', ⌜Good i mx mo mb ms me fX W₀ (64 * band i + 64) a'⌝ ∗ Now d i mo mb ms me O a')

theorem wp_rowsRest {fI : mi.view.ty.Contents (Elt F)} (hI : ∀ k < 1312, BitVec.toNat (rd mi fI k) = tab k)
    (a : At (F := F) mo mb ms me) (ha : Good i mx mo mb ms me fX W₀ (64 * band i) a) :
    iprop(Kept d i mx mi s4 s5 s6 q O fX fI ∗ Now d i mo mb ms me O a)
      ⊢ (wp frame (wpE (defs₀ (F := F)) 𝒱₀ (tile d i) bd) Set.univ (rowsRest d i mx hx mt ht mo ho mb hb ms hs mi hi me he s0 s1 s2 s3 s4 s5 s6 s7 s8 s9) fun _ =>
          Left d i mx mo mb ms mi me s4 s5 s6 q O W₀ fX fI : sProp 𝕄) := by
  unfold rowsRest
  rw [wp_bind]
  refine (rows d i mx hx mt ht mo ho mb hb ms hs mi hi me he s0 s1 s2 s3 s4 s5 s6 s7 s8 s9 bd hI a ha).trans (wp_mono frame _ _ fun v => ?_)
  rw [wp_bind]
  have h := wp_relLoop (defs := defs₀ (F := F)) 𝒱₀ (tile d i) bd Set.univ (k0_t8_loop i) (k0_t8_ok i) v
    (k0_t8_body i mx hx mt ht mo ho mb hb ms hs mi hi me he s0 s1 s2 s3 s4 s5 s6 s7 s8 s9 (BitVec.ofNat 32 (strip i)) (BitVec.ofNat 32 (64 * band i)) lane)
    (Left d i mx mo mb ms mi me s4 s5 s6 q O W₀ fX fI) (fun _ : Unit => (iprop(emp) : sProp 𝕄)) (fun _ _ => True) () trivial
    (fun t => absurd t.isLt (by have := t8_trips i; omega))
  iintro HL
  iapply (wp_wand_r frame (wpE (defs₀ (F := F)) 𝒱₀ (tile d i) bd) Set.univ)
  isplitl [HL]
  · iapply h
    isplitl [HL]; · iexact HL
    iempintro
  iintro %_ ⟨HL, -⟩
  rw [ret_pure, wp_ret]
  imodintro
  iexact HL

/-- The first band's task from where the column beyond the strip has been brought in. -/
def topRest (h2 : k0_cond2 i = 1#1) : Prog (TpuEff nD τ sig (Elt F) Λ₀ (tile d i).2) PUnit := do
  let _ ← Scf.Loop.for k0_t3_loop (k0_t3_ok i h2) 0#32 (k0_t3_body i mx hx mt ht mo ho mb hb ms hs mi hi me he s0 s1 s2 s3 s4 s5 s6 s7 s8 s9 lane h2)
  edgeStep (tile d i) ms mi me inb_S1312_S16_1280 (k0_chk4 i) (k0_chk4.dec i) (fun w h => k0_idx4_inb i w h h2)
    (k0_pay4 lane) (k0_chk5 i) (k0_chk5.dec i) (fun w h => k0_idx5_inb i w h h2) (k0_pay3 (BitVec.ofNat 32 (strip i))) (k0_pay5 lane)
    (View.loadsAt_vmem h_S16) (View.loads_vmem h_S224) (View.stores_vmem_bits_univ h_S5120 rfl)
  rowsRest d i mx hx mt ht mo ho mb hb ms hs mi hi me he s0 s1 s2 s3 s4 s5 s6 s7 s8 s9

theorem wp_topRest {fI : mi.view.ty.Contents (Elt F)} (hI : ∀ k < 1312, BitVec.toNat (rd mi fI k) = tab k)
    (h2 : k0_cond2 i = 1#1) (a : At (F := F) mo mb ms me) (sav₁ : ℕ → F .f32)
    (hB : ∀ j < 28672, rd mb a.B j = entry mx fX 0 (28672 * strip i + j))
    (hS : ∀ n < 5120, rd ms a.S n = if n < 1280 then rd mb a.B (tab n) else sav₁ n) (hW : Own W₀ a.W)
    (hE : 0 < strip i → ∀ k < 224, rd me a.E k = entry mx fX 0 (28672 * strip i - 224 + k)) :
    iprop(Kept d i mx mi s4 s5 s6 q O fX fI ∗ Now d i mo mb ms me O a)
      ⊢ (wp frame (wpE (defs₀ (F := F)) 𝒱₀ (tile d i) bd) Set.univ (topRest d i mx hx mt ht mo ho mb hb ms hs mi hi me he s0 s1 s2 s3 s4 s5 s6 s7 s8 s9 h2) fun _ =>
          Left d i mx mo mb ms mi me s4 s5 s6 q O W₀ fX fI : sProp 𝕄) := by
  obtain ⟨fB, fS, fE, fO, W⟩ := a
  have h0 : band i = 0 := (cond2_iff i).mp h2
  unfold topRest
  iintro ⟨⟨Hmw, Hx, Hi, H4, H5, H6⟩, Hb, Hs, He, Ho, HO⟩
  rw [wp_bind]
  iapply (wp_wand_r frame (wpE (defs₀ (F := F)) 𝒱₀ (tile d i) bd) Set.univ)
  isplitl [Hs]
  · iapply (loop3 d i mx hx mt ht mo ho mb hb ms hs mi hi me he s0 s1 s2 s3 s4 s5 s6 s7 s8 s9 bd Set.univ h2 fS)
    iexact Hs
  iintro %_ ⟨%fS', %hS', Hs⟩
  rw [wp_bind]
  iapply (wp_wand_r frame (wpE (defs₀ (F := F)) 𝒱₀ (tile d i) bd) Set.univ)
  isplitl [Hi He Hs]
  · iapply (wp_edgeStep (defs := defs₀ (F := F)) 𝒱₀ (tile d i) bd Set.univ tab 1280 4480 (by omega) (fun l hl => tab_edge_lt (by omega)) rfl
      pay4_at pay4_lt pay5_at (fun w hw _ => lanes_lt hw) (fun w hw _ => lanes_lt hw)
      (fun l => if 0 < strip i then entry mx fX 0 (28672 * strip i - 224 + chan (5 + l)) else zero0)
      (fun g hg l hl => by
        refine (pay3_at i g l).trans (if_ctx_congr Iff.rfl (fun h => ?_) fun _ => rfl)
        rw [← tab_before hl, ← hE h _ (tab_edge_lt (by omega))]
        exact hg l (by omega)) hI)
    isplitl [Hi]; · iexact Hi
    isplitl [He]; · iexact He
    iexact Hs
  iintro %_ ⟨Hi, He, %fS'', %hS'', Hs⟩
  iapply (wp_rowsRest d i mx hx mt ht mo ho mb hb ms hs mi hi me he s0 s1 s2 s3 s4 s5 s6 s7 s8 s9 bd hI ⟨fB, fS'', fE, fO, W⟩ ⟨by
    rw [h0]
    exact start_top _ hB hS hS' (fun l _ => rfl) hS''.1 hS''.2, fun r c h h' => absurd h' (by omega), hW⟩)
  isplitl [Hmw Hx Hi H4 H5 H6]
  · isplitl [Hmw]; · iexact Hmw
    isplitl [Hx]; · iexact Hx
    isplitl [Hi]; · iexact Hi
    isplitl [H4]; · iexact H4
    isplitl [H5]; · iexact H5
    iexact H6
  isplitl [Hb]; · iexact Hb
  isplitl [Hs]; · iexact Hs
  isplitl [He]; · iexact He
  isplitl [Ho]; · iexact Ho
  iexact HO

/-- The task from where the band's first row is saved. -/
def startRest : Prog (TpuEff nD τ sig (Elt F) Λ₀ (tile d i).2) PUnit := do
  if k0_h2 : k0_cond2 i = 1#1 then do
    if k0_h3 : k0_cond3 i = 1#1 then do
      Prog.lift (.enqueueDma ((mx.slice (Rect.unit (s := S512x114688) (k0_off9 i) S1x224.size (k0_off9_inb i k0_h2 k0_h3)) (fun _ => rfl)).squeeze S224 squeezes_S1x224_S224)
        (.here me) (.dma s3.sem) ((View.wordExact_bits rfl).reshape _ _) he.wordExact ⟨Or.inl rfl, trivial⟩)
      Prog.lift (.waitDma2 s3.sem ((mx.slice (Rect.unit (s := S512x114688) (k0_off9 i) S1x224.size (k0_off9_inb i k0_h2 k0_h3)) (fun _ => rfl)).squeeze S224 squeezes_S1x224_S224)
        me ((View.wordExact_bits rfl).reshape _ _) he.wordExact)
      topRest d i mx hx mt ht mo ho mb hb ms hs mi hi me he s0 s1 s2 s3 s4 s5 s6 s7 s8 s9 k0_h2
    else topRest d i mx hx mt ht mo ho mb hb ms hs mi hi me he s0 s1 s2 s3 s4 s5 s6 s7 s8 s9 k0_h2
  else rowsRest d i mx hx mt ht mo ho mb hb ms hs mi hi me he s0 s1 s2 s3 s4 s5 s6 s7 s8 s9

set_option maxRecDepth 100000 in
set_option maxHeartbeats 2000000 in
set_option sl_exec.dmaWindow true in
theorem wp_startRest {fI : mi.view.ty.Contents (Elt F)} (hI : ∀ k < 1312, BitVec.toNat (rd mi fI k) = tab k)
    (a : At (F := F) mo mb ms me) (sav₁ : ℕ → F .f32)
    (hB : ∀ j < 28672, rd mb a.B j = entry mx fX (64 * band i) (28672 * strip i + j))
    (hS : ∀ n < 5120, rd ms a.S n = if n < 1280 then rd mb a.B (tab n) else sav₁ n)
    (hS₁ : 0 < band i → ∀ k < 1280, sav₁ (1280 * 3 + k) = entry mx fX (64 * band i - 1) (28672 * strip i + tab k)) (hW : Own W₀ a.W) :
    iprop(semVal (tile d i, .dma s3.sem) 0 ∗ Kept d i mx mi s4 s5 s6 q O fX fI ∗ Now d i mo mb ms me O a)
      ⊢ (wp frame (wpE (defs₀ (F := F)) 𝒱₀ (tile d i) bd) Set.univ (startRest d i mx hx mt ht mo ho mb hb ms hs mi hi me he s0 s1 s2 s3 s4 s5 s6 s7 s8 s9) fun _ =>
          iprop(semVal (tile d i, .dma s3.sem) 0 ∗ Left d i mx mo mb ms mi me s4 s5 s6 q O W₀ fX fI) : sProp 𝕄) := by
  unfold startRest
  by_cases h2 : k0_cond2 i = 1#1
  · have h0 : band i = 0 := (cond2_iff i).mp h2
    rw [dif_pos h2]
    rw [h0] at hB
    by_cases h3 : k0_cond3 i = 1#1
    · rw [dif_pos h3]
      obtain ⟨fB, fS, fE, fO, W⟩ := a
      iintro ⟨H3, ⟨Hmw, Hx, Hi, H4, H5, H6⟩, Hb, Hs, He, Ho, HO⟩
      sl_exec
      iapply (wp_wand_r frame (wpE (defs₀ (F := F)) 𝒱₀ (tile d i) bd) Set.univ)
      isplitr [H3]
      · iapply (show _ ⊢ _ from wp_topRest d i mx hx mt ht mo ho mb hb ms hs mi hi me he s0 s1 s2 s3 s4 s5 s6 s7 s8 s9 bd hI h2 (W₀ := W₀) ⟨fB, fS,
          me.view.writes (Elt F) me.view.junk [⟨Rect.whole S224, ((mx.view.slice (Rect.unit (s := S512x114688) (k0_off9 i) S1x224.size (k0_off9_inb i h2 h3))).reshape S224 rfl).read (Elt F) fX⟩],
          fO, insert (SemLoc.dma s3.sem, default) W⟩ sav₁ hB hS (fun p hp => (Finset.mem_insert.mp hp).elim (fun e => .inr (by rw [e]; rfl)) (hW p))
          (fun h k hk => by
            refine (column_in mx me (off := k0_off9 i) (k0_off9_inb i h2 h3) me.view.junk rfl k hk).trans ?_
            rw [off9_eq i h]
            rfl))
        isplitl [Hmw Hx Hi H4 H5 H6]
        · isplitl [Hmw]; · iexact Hmw
          isplitl [Hx]; · iexact Hx
          isplitl [Hi]; · iexact Hi
          isplitl [H4]; · iexact H4
          isplitl [H5]; · iexact H5
          iexact H6
        isplitl [Hb]; · iexact Hb
        isplitl [Hs]; · iexact Hs
        isplitl [He]; · iexact He
        isplitl [Ho]; · iexact Ho
        iexact HO
      iintro %_ HL
      isplitl [H3]; · iexact H3
      iexact HL
    · rw [dif_neg h3]
      iintro ⟨H3, HK, HN⟩
      iapply (wp_wand_r frame (wpE (defs₀ (F := F)) 𝒱₀ (tile d i) bd) Set.univ)
      isplitr [H3]
      · iapply (wp_topRest d i mx hx mt ht mo ho mb hb ms hs mi hi me he s0 s1 s2 s3 s4 s5 s6 s7 s8 s9 bd hI h2 (W₀ := W₀) a sav₁ hB hS hW fun h => absurd ((cond3_iff i).mpr h) h3)
        isplitl [HK]; · iexact HK
        iexact HN
      iintro %_ HL
      isplitl [H3]; · iexact H3
      iexact HL
  · rw [dif_neg h2]
    have h0 : 0 < band i := Nat.pos_of_ne_zero fun h => h2 ((cond2_iff i).mpr h)
    iintro ⟨H3, HK, HN⟩
    iapply (wp_wand_r frame (wpE (defs₀ (F := F)) 𝒱₀ (tile d i) bd) Set.univ)
    isplitr [H3]
    · iapply (wp_rowsRest d i mx hx mt ht mo ho mb hb ms hs mi hi me he s0 s1 s2 s3 s4 s5 s6 s7 s8 s9 bd hI a ⟨start_row (sav₁ := sav₁) (sav₂ := sav₁) (buf₁ := sav₁) (by omega)
        (fun k hk => by
          rw [show (64 * band i + 3) % 4 = 3 by omega]
          exact hS₁ h0 k hk)
        (fun j hj => by
          rw [show 28672 * (64 * band i % 4) + j = j by omega]
          exact hB j hj)
        (fun n hn => by
          rw [show 64 * band i % 4 = 0 by omega]
          refine (hS n hn).trans (if_congr (by omega) (congrArg _ ?_) rfl)
          rw [Nat.zero_add, Nat.sub_zero]), fun r c h h' => absurd h' (by omega), hW⟩)
      isplitl [HK]; · iexact HK
      iexact HN
    iintro %_ HL
    isplitl [H3]; · iexact H3
    iexact HL

end Cert.KernelIdeal.Task
-- ==== Proof.TaskI.lean ====
/-
  A tile's whole task, from its beginning to its end.
-/
module

public import proofs.«01_k».proof.Defs
public import proofs.«01_k».proof.Proof.StartI
public import proofs.«01_k».proof.Proof.RowI
public import proofs.«01_k».proof.Proof.Steps
public import proofs.«01_k».proof.Proof.Windows
public import proofs.«01_k».proof.Proof.Spec
public import proofs.«01_k».proof.Proof.OffI
public import proofs.«01_k».proof.Proof.PayI
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Task

open Cert.KernelIdeal Cert.KernelIdeal.Gen Cert.Proof

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

variable (mx : Memref sig .scVector .hbm S512x114688 .f32) (hx : mx.IsWhole)
variable (mt : Memref sig .scVector .hbm S1312 .i32) (ht : mt.IsWhole)
variable (mo : Memref sig .scVector .hbm S512x114688 .f32) (ho : mo.IsWhole)
variable (mb : Memref sig .scVector .vmem S114688 .f32) (hb : mb.IsWhole)
variable (ms : Memref sig .scVector .vmem S5120 .f32) (hs : ms.IsWhole)
variable (mi : Memref sig .scVector .vmem S1312 .i32) (hi : mi.IsWhole)
variable (me : Memref sig .scVector .vmem S224 .f32) (he : me.IsWhole)
variable (s0 s1 s2 s3 s4 s5 s6 s7 s8 s9 : DmaSems sig S_)

variable (bd : Option 𝒱₀.V)

variable {q q' : PosShare TreeShare} {O : CellTallies nD τ sig (HIx 1)} {W₀ : Waits sig (HIx 1)} {fX : mx.view.ty.Contents (Elt F)} {fT : mt.view.ty.Contents (Elt F)}

/-- The row buffer once the band's first row has been copied into its first quarter. -/
theorem first_row (fB : mb.view.ty.Contents (Elt F)) (h : (⟨1, ![28672]⟩ : Shape).numel = (⟨2, ![1, 28672]⟩ : Shape).numel) (j : ℕ) (hj : j < 28672) :
    rd mb ((mb.access (Rect.unit (s := S114688) (k0_off5 i) S28672.size (k0_off5_inb i))).write (Elt F) fB
        (((mx.view.slice (Rect.unit (s := S512x114688) (k0_off6 i) S1x28672.size (k0_off6_inb i))).reshape S28672 h).read (Elt F) fX) Finset.univ) j
      = entry mx fX (64 * band i) (28672 * strip i + j) := by
  refine (row_in mx mb (off := k0_off5 i) (off' := k0_off6 i) (k0_off5_inb i) (k0_off6_inb i) fB j (by omega) h).trans ?_
  rw [off5_eq i, off6_eq i]
  show (if 0 ≤ j ∧ j < 0 + 28672 then entry mx fX (64 * band i) (28672 * strip i + (j - 0)) else _) = _
  rw [if_pos (by omega), Nat.sub_zero]

/-- The marked entries once the first row's have been gathered into slot 0. -/
theorem first_saved {fB : mb.view.ty.Contents (Elt F)} {fS : ms.view.ty.Contents (Elt F)} {sav : ℕ → F .f32}
    (h : ∀ n < 5120, rd ms fS n = if 1280 * 0 ≤ n ∧ n < 1280 * 0 + 1280 then rd mb fB (28672 * 0 + tab (n - 1280 * 0)) else sav n) :
    ∀ n < 5120, rd ms fS n = if n < 1280 then rd mb fB (tab n) else sav n := by
  intro n hn
  rw [h n hn]
  simp only [Nat.mul_zero, Nat.zero_add, Nat.sub_zero]
  by_cases hc : n < 1280
  · rw [if_pos hc, if_pos ⟨Nat.zero_le n, hc⟩]
  · rw [if_neg hc, if_neg fun e => hc e.2]

set_option maxRecDepth 100000 in
set_option maxHeartbeats 2000000 in
set_option sl_exec.dmaWindow true in
/-- The whole task of the tile at `i`: it leaves each row of its block at its result and everything else as it needs to be. -/
theorem wp_task (hT : ∀ k < 1312, BitVec.toNat (at1 (mt.view.read (Elt F) fT) k) = tab k)
    (gI : mi.view.ty.Contents (Elt F)) (gB : mb.view.ty.Contents (Elt F)) (gS : ms.view.ty.Contents (Elt F))
    (gE : me.view.ty.Contents (Elt F)) (gO : mo.view.ty.Contents (Elt F)) :
    iprop(Transfers.MayWaits (tile d i) (default : HIx 1) O ∗ (mx.view.loc (tile d i) ↦[mx.view.set]{q} fX) ∗ (mt.view.loc (tile d i) ↦[mt.view.set]{q'} fT)
      ∗ (mi.view.loc (tile d i) ↦[mi.view.set]{fullShare} gI) ∗ (mb.view.loc (tile d i) ↦[mb.view.set]{fullShare} gB) ∗ (ms.view.loc (tile d i) ↦[ms.view.set]{fullShare} gS)
      ∗ (me.view.loc (tile d i) ↦[me.view.set]{fullShare} gE) ∗ (mo.view.loc (tile d i) ↦[mo.view.setOn (block i).set]{fullShare} gO)
      ∗ semVal (tile d i, .dma s0.sem) 0 ∗ semVal (tile d i, .dma s1.sem) 0 ∗ semVal (tile d i, .dma s2.sem) 0 ∗ semVal (tile d i, .dma s3.sem) 0
      ∗ semVal (tile d i, .dma s4.sem) 0 ∗ semVal (tile d i, .dma s5.sem) 0 ∗ semVal (tile d i, .dma s6.sem) 0 ∗ owes (tile d i) O W₀)
      ⊢ (wp frame (wpE (defs₀ (F := F)) 𝒱₀ (tile d i) bd) Set.univ (cc0__sc_shift i mx hx mt ht mo ho mb hb ms hs mi hi me he s0 s1 s2 s3 s4 s5 s6 s7 s8 s9) fun _ =>
          iprop((mt.view.loc (tile d i) ↦[mt.view.set]{q'} fT)
            ∗ semVal (tile d i, .dma s0.sem) 0 ∗ semVal (tile d i, .dma s1.sem) 0 ∗ semVal (tile d i, .dma s2.sem) 0 ∗ semVal (tile d i, .dma s3.sem) 0
            ∗ ∃ fI : mi.view.ty.Contents (Elt F), Left d i mx mo mb ms mi me s4 s5 s6 q O W₀ fX fI) : sProp 𝕄) := by
  rw [cc0__sc_shift_eq_skeleton]
  unfold cc0__sc_shift_skel
  rw [k0_part1_eq_skeleton, wp_bind]
  iintro ⟨Hmw, Hx, Ht, Hi, Hb, Hs, He, Ho, H0, H1, H2, H3, H4, H5, H6, HO⟩
  iapply (wp_wand_r frame (wpE (defs₀ (F := F)) 𝒱₀ (tile d i) bd) Set.univ)
  isplitl [Hmw Hx Ht Hi Hb Hs H0 H1 HO]
  · iapply (part1 d i mx hx mt ht mo ho mb hb ms hs mi hi me he s0 s1 s2 s3 s4 s5 s6 s7 s8 s9 bd hT gI gB gS W₀ (W₀ := W₀) (fun p hp => .inl hp))
    isplitl [Hmw]; · iexact Hmw
    isplitl [Hx]; · iexact Hx
    isplitl [Ht]; · iexact Ht
    isplitl [Hi]; · iexact Hi
    isplitl [Hb]; · iexact Hb
    isplitl [Hs]; · iexact Hs
    isplitl [H0]; · iexact H0
    isplitl [H1]; · iexact H1
    iexact HO
  iintro %r ⟨Hmw, Hx, Ht, H0, H1, %fI, %fB, %fS, %W, %h, Hi, Hb, Hs, HO⟩
  obtain ⟨⟨w1, w2, w3, rfl⟩, hI, hS₁, hW⟩ := h
  dsimp only
  sl_exec
  rw [wp_bind]
  iapply (wp_wand_r frame (wpE (defs₀ (F := F)) 𝒱₀ (tile d i) bd) Set.univ)
  isplitl [Hi Hb Hs]
  · iapply (loop2 d i mx hx mt ht mo ho mb hb ms hs mi hi me he s0 s1 s2 s3 s4 s5 s6 s7 s8 s9 bd Set.univ hI fS)
    isplitl [Hi]; · iexact Hi
    isplitl [Hb]; · iexact Hb
    iexact Hs
  iintro %_ ⟨Hi, Hb, %fS', %hS, Hs⟩
  have e1 : ∀ j < 28672, rd mb (wp_task.sl.Hb_w0 i mx mb fB) j = entry mx fX (64 * band i) (28672 * strip i + j) :=
    first_row i mx mb fB squeezes_S1x28672_S28672.numel_eq
  have e2 := first_saved mb ms hS
  have e3 : Own W₀ (insert (SemLoc.dma s2.sem, default) W) := fun p hp => (Finset.mem_insert.mp hp).elim (fun e => .inr (by rw [e]; rfl)) (hW p)
  generalize wp_task.sl.Hb_w0 i mx mb fB = fB' at e1 e2 ⊢
  have H := wp_startRest d i mx hx mt ht mo ho mb hb ms hs mi hi me he s0 s1 s2 s3 s4 s5 s6 s7 s8 s9 bd hI (W₀ := W₀) (O := O) (q := q) (fX := fX)
      ⟨fB', fS', gE, gO, insert (SemLoc.dma s2.sem, default) W⟩ (rd ms fS) e1 e2 hS₁ e3
  simp only [startRest, topRest, rowsRest, edgeStep, bind_assoc, pure_bind] at H
  iapply (wp_wand_r frame (wpE (defs₀ (F := F)) 𝒱₀ (tile d i) bd) Set.univ)
  isplitr [Ht H0 H1 H2]
  · iapply H
    isplitl [H3]; · iexact H3
    isplitl [Hmw Hx Hi H4 H5 H6]
    · isplitl [Hmw]; · iexact Hmw
      isplitl [Hx]; · iexact Hx
      isplitl [Hi]; · iexact Hi
      isplitl [H4]; · iexact H4
      isplitl [H5]; · iexact H5
      iexact H6
    isplitl [Hb]; · iexact Hb
    isplitl [Hs]; · iexact Hs
    isplitl [He]; · iexact He
    isplitl [Ho]; · iexact Ho
    iexact HO
  iintro %_ ⟨H3, HL⟩
  isplitl [Ht]; · iexact Ht
  isplitl [H0]; · iexact H0
  isplitl [H1]; · iexact H1
  isplitl [H2]; · iexact H2
  isplitl [H3]; · iexact H3
  iexists fI
  iexact HL

end Cert.KernelIdeal.Task
-- ==== Proof.BlocksI.lean ====
/-
  The blocks of the result that the thirty-two tiles write, and a tile's task from what the launch hands it to what it
  hands back.
-/
module

public import proofs.«01_k».proof.Defs
public import proofs.«01_k».proof.Proof.TaskI
public import proofs.«01_k».proof.Proof.StartI
public import proofs.«01_k».proof.Proof.Shares
public import proofs.«01_k».proof.Proof.RowI
public import proofs.«01_k».proof.Proof.Steps
public import proofs.«01_k».proof.Proof.Windows
public import proofs.«01_k».proof.Proof.Spec
public import proofs.«01_k».proof.Proof.OffI
public import proofs.«01_k».proof.Proof.PayI
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Task

open Cert.KernelIdeal Cert.KernelIdeal.Gen Cert.Proof

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the buffers hold -/

variable (m : (ℓ : Loc nD τ sig) → Buf (Elt F) ℓ) (d : Dev nD)

abbrev argLoc : Loc nD τ sig := (SparseCore.T d).loc main_arg0
abbrev tabLoc : Loc nD τ sig := (SparseCore.T d).loc main_c
abbrev inLoc : Loc nD τ sig := (SparseCore.T d).loc main_v0
abbrev outLoc : Loc nD τ sig := (SparseCore.T d).loc main_v1
abbrev resLoc : Loc nD τ sig := (SparseCore.T d).loc main_v2

/-- The array the tiles read: the argument with each row's pixels and channels in one line. -/
def inC : Buf (Elt F) (inLoc d) := shapeCast S512x114688 (m (argLoc d)) shapeCasts_S512x512x224_S512x114688

/-- The table of positions. -/
def tabC : Buf (Elt F) (tabLoc d) := fun i => lit0 (S1312.rowMajor i)

/-- The array the tiles write. -/
def outC : Buf (Elt F) (outLoc d) := fun y => shifted (at2 (α := F .f32) (M := 512) (N := 114688) (inC m d)) zero0 (y 0).val (y 1).val

/-- The result. -/
def resC : Buf (Elt F) (resLoc d) := shapeCast S512x512x224 (outC m d) shapeCasts_S512x114688_S512x512x224

omit [FloatOps F] in
theorem tabC_eq (k : ℕ) (hk : k < 1312) : BitVec.toNat (at1 (α := BitVec 32) (N := 1312) (tabC (F := F) d) k) = tab k := by
  show (lit0 (S1312.rowMajor (ix1 (Fin.ofNat 1312 k)))).toNat = tab k
  refine (lit0_eq (S1312.rowMajor (ix1 (Fin.ofNat 1312 k)))).trans (congrArg tab ?_)
  rw [Shape.rowMajor_val_one]
  exact ix1_ofNat_val hk

/-! ## The tiles' blocks -/

/-- The tile of core `c` and subcore `s`. -/
def spot (c : Fin (grid0.bound 0)) (s : Fin (grid0.bound 1)) : grid0.Coords :=
  fun | 0 => c | 1 => s | ⟨_ + 2, h⟩ => absurd h (Nat.not_lt.2 (Nat.le_add_left _ _))

abbrev core (c : Fin 2) (s : Fin 16) : grid0.Coords := spot c s

theorem mem_block (i : grid0.Coords) (y : S512x114688.Idx) : y ∈ (block i).set ↔ (y 0).val / 64 = band i ∧ (y 1).val / 28672 = strip i := by
  rw [Rect.mem_set_unit]
  constructor
  · intro h
    have h0 : 64 * band i ≤ (y 0).val ∧ (y 0).val < 64 * band i + 64 := h 0
    have h1 : 28672 * strip i ≤ (y 1).val ∧ (y 1).val < 28672 * strip i + 28672 := h 1
    omega
  · rintro ⟨h0, h1⟩ a
    match a with
    | ⟨0, _⟩ =>
      show 64 * band i ≤ (y 0).val ∧ (y 0).val < 64 * band i + 64
      omega
    | ⟨1, _⟩ =>
      show 28672 * strip i ≤ (y 1).val ∧ (y 1).val < 28672 * strip i + 28672
      omega

theorem spots_inj : ∀ (c c' : Fin 2) (s s' : Fin 16), band (core c s) = band (core c' s') → strip (core c s) = strip (core c' s') → c = c' ∧ s = s' := by
  decide +kernel

theorem spots_all : ∀ (b : Fin 8) (t : Fin 4), ∃ (c : Fin 2) (s : Fin 16), band (core c s) = b.val ∧ strip (core c s) = t.val := by
  decide +kernel

/-- The part of the result that core `c`'s tiles write. -/
def half (c : Fin 2) : Finset S512x114688.Idx := Finset.univ.biUnion fun s : Fin 16 => (block (core c s)).set

theorem blocks_disjoint (c : Fin 2) : ∀ s ∈ (Finset.univ : Finset (Fin 16)), ∀ s' ∈ (Finset.univ : Finset (Fin 16)), s ≠ s' →
    Disjoint (block (core c s)).set (block (core c s')).set := by
  intro s _ s' _ hne
  refine Finset.disjoint_left.mpr fun y h h' => hne ?_
  rw [mem_block] at h h'
  exact (spots_inj c c s s' (h.1.symm.trans h'.1) (h.2.symm.trans h'.2)).2

theorem halves_disjoint : ∀ c ∈ (Finset.univ : Finset (Fin 2)), ∀ c' ∈ (Finset.univ : Finset (Fin 2)), c ≠ c' → Disjoint (half c) (half c') := by
  intro c _ c' _ hne
  refine Finset.disjoint_left.mpr fun y h h' => hne ?_
  obtain ⟨s, -, h⟩ := Finset.mem_biUnion.mp h
  obtain ⟨s', -, h'⟩ := Finset.mem_biUnion.mp h'
  rw [mem_block] at h h'
  exact (spots_inj c c' s s' (h.1.symm.trans h'.1) (h.2.symm.trans h'.2)).1

theorem halves_cover : (Finset.univ : Finset (Fin 2)).biUnion half = Finset.univ := by
  refine Finset.eq_univ_iff_forall.mpr fun y => ?_
  have h0 : (y 0).val < 512 := (y 0).isLt
  have h1 : (y 1).val < 114688 := (y 1).isLt
  obtain ⟨c, s, hb, ht⟩ := spots_all ⟨(y 0).val / 64, by omega⟩ ⟨(y 1).val / 28672, by omega⟩
  exact Finset.mem_biUnion.mpr ⟨c, Finset.mem_univ _, Finset.mem_biUnion.mpr ⟨s, Finset.mem_univ _, (mem_block _ y).mpr ⟨hb.symm, ht.symm⟩⟩⟩

/-! ## What a tile is handed, and what it hands back -/

/-- Core `c`'s share of the two arrays that are only read. -/
abbrev coreShare (c : Fin 2) : PosShare TreeShare := cut 1 fullShare c

/-- The share of the tile at `i`. -/
abbrev tileShare (i : grid0.Coords) : PosShare TreeShare := cut 15 (coreShare (i 0)) (i 1)

/-- A tile's share of the two arrays it reads, and its block of the one it writes, at contents `f`. -/
abbrev Piece (f : Buf (Elt F) (outLoc d)) (i : grid0.Coords) : sProp 𝕄 :=
  iprop((inLoc d ↦{tileShare i} inC m d) ∗ (tabLoc d ↦{tileShare i} tabC d) ∗ outLoc d ↦[(block i).set]{fullShare} f)

end Cert.KernelIdeal.Task
-- ==== Proof.HandI.lean ====
/-
  A tile's task from what the launch hands it to what it hands back: its own scratch memory and semaphores among those
  the launch gives it, and the task run on them.
-/
module

public import proofs.«01_k».proof.Defs
public import proofs.«01_k».proof.Proof.BlocksI
public import proofs.«01_k».proof.Proof.TaskI
public import proofs.«01_k».proof.Proof.StartI
public import proofs.«01_k».proof.Proof.Shares
public import proofs.«01_k».proof.Proof.RowI
public import proofs.«01_k».proof.Proof.Steps
public import proofs.«01_k».proof.Proof.Windows
public import proofs.«01_k».proof.Proof.Spec
public import proofs.«01_k».proof.Proof.OffI
public import proofs.«01_k».proof.Proof.PayI
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Task

open Cert.KernelIdeal Cert.KernelIdeal.Gen Cert.Proof

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD)

abbrev ΛP : Labels := Pipeline.Sig Λ₀ (Fin 0) fun p => (pcfgs (F := F) p).Adm
abbrev K : SparseCore.Cfg τ sig (ΛP (F := F)) 1 := sc (F := F)

/-! ## The tile's own memory and semaphores -/

omit [FloatOps F] in
/-- The terms of a product over a set that a short list names, and the others. -/
theorem named {I : Type} [DecidableEq I] {n : ℕ} (S : Finset I) (e : Fin n → I) (inj : Function.Injective e) (mem : ∀ k, e k ∈ S) (Φ : I → sProp 𝕄) :
    bigSep S Φ = iprop((bigSep Finset.univ fun k => Φ (e k)) ∗ bigSep (S \ Finset.univ.image e) Φ) := by
  rw [SparseCore.bigSep_sdiff_split' (s := S) (t := Finset.univ.image e)
    (fun x hx => by obtain ⟨k, -, rfl⟩ := Finset.mem_image.mp hx; exact mem k),
    SparseCore.bigSep_image_of_injOn (fun a _ b _ h => inj h) Φ]

/-- The seven semaphores the task's copies use. -/
def sems : Fin 7 → DmaSem sig :=
  ![cc0_scoped0.sem, cc0_scoped1.sem, cc0_scoped2.sem, cc0_scoped3.sem, cc0_scoped4.sem, cc0_scoped5.sem, cc0_scoped6.sem]

theorem sems_inj : Function.Injective sems := by decide +kernel

theorem sems_scoped : ∀ k, (SemLoc.dma (sems k) : SemLoc sig).isScoped .scVector = true := by decide +kernel

/-- The four scratch buffers. -/
def bufs : Fin 4 → Ref sig .scVector := ![cc0_scratch0, cc0_scratch1, cc0_scratch2, cc0_scratch3]

theorem bufs_inj : Function.Injective bufs := by decide +kernel

variable (i : grid0.Coords)

abbrev cellAt (k : Fin 7) : GSem nD τ sig := (tile d i, .dma (sems k))

abbrev refAt (k : Fin 4) : DevRef τ sig := (tile d i).2.devRef (bufs k)

omit [FloatOps F] in
theorem ownSems0_tile : (ownSems0 (tile d i) : sProp 𝕄)
    = iprop((semVal (cellAt d i 0) 0 ∗ semVal (cellAt d i 1) 0 ∗ semVal (cellAt d i 2) 0 ∗ semVal (cellAt d i 3) 0
        ∗ semVal (cellAt d i 4) 0 ∗ semVal (cellAt d i 5) 0 ∗ semVal (cellAt d i 6) 0)
      ∗ bigSep (ownCells (tile d i) \ Finset.univ.image (cellAt d i)) fun g => semVal g 0) := by
  unfold SparseCore.Cfg.ownSems0
  rw [named (ownCells (tile d i)) (cellAt d i) (fun k k' h => sems_inj (SemLoc.dma.inj (Prod.mk.inj h).2))
    (fun k => mem_ownCells.mpr ⟨rfl, sems_scoped k⟩) (fun g => (semVal g 0 : sProp 𝕄)),
    show (Finset.univ : Finset (Fin 7)) = {0, 1, 2, 3, 4, 5, 6} by decide]
  repeat rw [SparseCore.bigSep_insert' (by decide)]
  rw [bigSep_singleton]

omit [FloatOps F] in
theorem ownBufs_tile : (ownBufs (tile d i) : sProp 𝕄)
    = iprop(((∃ f, (tile d i).loc cc0_scratch0 ↦{fullShare} f) ∗ (∃ f, (tile d i).loc cc0_scratch1 ↦{fullShare} f)
        ∗ (∃ f, (tile d i).loc cc0_scratch2 ↦{fullShare} f) ∗ ∃ f, (tile d i).loc cc0_scratch3 ↦{fullShare} f)
      ∗ bigSep (ownRefs (τ := τ) (tile d i).2 \ Finset.univ.image (refAt d i)) fun b => iprop(∃ f, ((d, b) : Loc nD τ sig) ↦{fullShare} f)) := by
  unfold SparseCore.Cfg.ownBufs
  refine (named (ownRefs (τ := τ) (tile d i).2) (refAt d i) (fun k k' h => bufs_inj (Proc.devRef_injective _ h))
    (fun k => SparseCore.Cfg.mem_ownRefs_of_owner (p := (tile d i).2) (b := refAt d i k) (match k with | 0 => rfl | 1 => rfl | 2 => rfl | 3 => rfl))
    (fun b => (iprop(∃ f, ((d, b) : Loc nD τ sig) ↦{fullShare} f) : sProp 𝕄))).trans ?_
  rw [show (Finset.univ : Finset (Fin 4)) = {0, 1, 2, 3} by decide]
  repeat rw [SparseCore.bigSep_insert' (by decide)]
  rw [bigSep_singleton]
  rfl

/-! ## The task, from the launch's hands -/

omit [FloatOps F] in
/-- A whole buffer seen through its own view. -/
theorem whole_pts (r : Ref sig .scVector) (q : PosShare TreeShare) (f : Buf (Elt F) ((tile d i).loc r)) :
    (((Memref.whole r).view.loc (tile d i) ↦[(Memref.whole r).view.set]{q} f : sProp 𝕄)) = ((tile d i).loc r ↦{q} f) := by
  show ((tile d i).loc r ↦[(View.whole r).set]{q} f : sProp 𝕄) = _
  rw [View.set_whole]

omit [FloatOps F] in
theorem block_pts (f : Buf (Elt F) (outLoc d)) :
    (((Memref.whole main_v1_scv).view.loc (tile d i) ↦[(Memref.whole main_v1_scv).view.setOn (block i).set]{fullShare} f : sProp 𝕄))
      = (outLoc d ↦[(block i).set]{fullShare} f) := by
  show (outLoc d ↦[(View.whole main_v1_scv).setOn (block i).set]{fullShare} f : sProp 𝕄) = _
  rw [show (View.whole main_v1_scv).setOn (block i).set = (block i).set from Finset.map_refl]

/-- The block, once every row of it is done, holds the result. -/
theorem block_done (f : Buf (Elt F) (outLoc d))
    (h : Done i (Memref.whole main_v0_scv) (Memref.whole main_v1_scv) (inC m d) (64 * band i + 64) f) :
    (outLoc d ↦[(block i).set]{fullShare} f : sProp 𝕄) = (outLoc d ↦[(block i).set]{fullShare} outC m d) := by
  refine pointsTo_congr fun y hy => ?_
  have hy : y ∈ (block i).set := hy
  rw [mem_block] at hy
  have h1 := h (y 0).val (y 1).val (by omega) (by omega) (by omega) (by omega)
  exact (at2_of_eq (M := 512) (N := 114688) f y rfl rfl).trans h1

set_option maxRecDepth 16384 in
set_option maxHeartbeats 2000000 in
theorem tile_body (hF : (K (F := F)).Facts) (O : CellTallies nD τ sig (HIx 1)) (W : Waits sig (HIx 1)) (hO : ∀ g, O g none = 0) :
    iprop(levAts (K (F := F)).L (K (F := F)).lev ∗ emp ∗ Piece m d (m (outLoc d)) i
        ∗ scopedBufs (tile d i) ∗ scopedSems0 (tile d i) ∗ owes (tile d i) O W)
      ⊢ (wp frame (wpE (defs₀ (F := F)) 𝒱₀ (tile d i) none) Set.univ
          (cc0__sc_shift i (Memref.whole main_v0_scv) (Memref.isWhole_whole _) (Memref.whole main_c_scv) (Memref.isWhole_whole _)
            (Memref.whole main_v1_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scoped0 cc0_scoped1 cc0_scoped2 cc0_scoped3 cc0_scoped4
            cc0_scoped5 cc0_scoped6 cc0_scoped7 cc0_scoped8 cc0_scoped9) fun _ =>
          iprop(Piece m d (outC m d) i ∗ scopedBufs (tile d i) ∗ scopedSems0 (tile d i)
            ∗ ∃ W', ⌜∀ p ∈ W', p ∈ W ∨ p.2 = none⌝ ∗ owes (tile d i) O W') : sProp 𝕄) := by
  rw [(K (F := F)).scopedBufs_V hF d ((i 0).castLE hcore0) ((i 1).castLE hsub0),
    SparseCore.Cfg.scopedSems0_V (Val := Elt F) d ((i 0).castLE hcore0) ((i 1).castLE hsub0), ownSems0_tile, ownBufs_tile]
  iintro ⟨#Hlv, -, ⟨Hx, Ht, Ho⟩, ⟨⟨⟨%gB, Hb⟩, ⟨%gS, Hs⟩, ⟨%gI, Hi⟩, ⟨%gE, He⟩⟩, Hbufs⟩, ⟨⟨H0, H1, H2, H3, H4, H5, H6⟩, Hsems⟩, HO⟩
  ihave Hmw := (show levAts (K (F := F)).L (K (F := F)).lev ⊢ Transfers.MayWaits (tile d i) (default : HIx 1) O from
    (K (F := F)).mayWaits_none (thr := tile d i) hO) $$ Hlv
  iapply (wp_wand_r frame (wpE (defs₀ (F := F)) 𝒱₀ (tile d i) none) Set.univ)
  isplitr [Hbufs Hsems]
  · iapply (wp_task d i (Memref.whole main_v0_scv) (Memref.isWhole_whole _) (Memref.whole main_c_scv) (Memref.isWhole_whole _)
      (Memref.whole main_v1_scv) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scoped0 cc0_scoped1 cc0_scoped2 cc0_scoped3 cc0_scoped4
      cc0_scoped5 cc0_scoped6 cc0_scoped7 cc0_scoped8 cc0_scoped9 none (q := tileShare i) (q' := tileShare i) (O := O) (W₀ := W)
      (fX := inC m d) (fT := tabC d) (tabC_eq (F := F) d) gI gB gS gE (m (outLoc d)))
    isplitl [Hmw]; · iexact Hmw
    isplitl [Hx]; · iapply (Entails.of_eq (whole_pts d i main_v0_scv (tileShare i) (inC m d)).symm); iexact Hx
    isplitl [Ht]; · iapply (Entails.of_eq (whole_pts d i main_c_scv (tileShare i) (tabC d)).symm); iexact Ht
    isplitl [Hi]; · iapply (Entails.of_eq (whole_pts d i cc0_scratch2 fullShare gI).symm); iexact Hi
    isplitl [Hb]; · iapply (Entails.of_eq (whole_pts d i cc0_scratch0 fullShare gB).symm); iexact Hb
    isplitl [Hs]; · iapply (Entails.of_eq (whole_pts d i cc0_scratch1 fullShare gS).symm); iexact Hs
    isplitl [He]; · iapply (Entails.of_eq (whole_pts d i cc0_scratch3 fullShare gE).symm); iexact He
    isplitl [Ho]; · iapply (Entails.of_eq (block_pts d i (m (outLoc d))).symm); iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact HO
  iintro %_ ⟨Ht, H0, H1, H2, H3, %fI, ⟨-, Hx, Hi, H4, H5, H6⟩, %a, %hG, Hb, Hs, He, Ho, HO⟩
  obtain ⟨-, hD, hW⟩ := hG
  isplitl [Hx Ht Ho]
  · isplitl [Hx]; · iapply (Entails.of_eq (whole_pts d i main_v0_scv (tileShare i) (inC m d))); iexact Hx
    isplitl [Ht]; · iapply (Entails.of_eq (whole_pts d i main_c_scv (tileShare i) (tabC d))); iexact Ht
    iapply (Entails.of_eq ((block_pts d i a.O).trans (block_done m d i a.O hD))); iexact Ho
  isplitl [Hb Hs Hi He Hbufs]
  · isplitr [Hbufs]
    · isplitl [Hb]; · iexists a.B; iapply (Entails.of_eq (whole_pts d i cc0_scratch0 fullShare a.B)); iexact Hb
      isplitl [Hs]; · iexists a.S; iapply (Entails.of_eq (whole_pts d i cc0_scratch1 fullShare a.S)); iexact Hs
      isplitl [Hi]; · iexists fI; iapply (Entails.of_eq (whole_pts d i cc0_scratch2 fullShare fI)); iexact Hi
      iexists a.E; iapply (Entails.of_eq (whole_pts d i cc0_scratch3 fullShare a.E)); iexact He
    iexact Hbufs
  isplitl [H0 H1 H2 H3 H4 H5 H6 Hsems]
  · isplitr [Hsems]
    · isplitl [H0]; · iexact H0
      isplitl [H1]; · iexact H1
      isplitl [H2]; · iexact H2
      isplitl [H3]; · iexact H3
      isplitl [H4]; · iexact H4
      isplitl [H5]; · iexact H5
      iexact H6
    iexact Hsems
  iexists a.W
  isplitr
  · ipureintro; exact hW
  iexact HO

end Cert.KernelIdeal.Task
-- ==== Proof.LaunchI.lean ====
/-
  The whole program: the launch of the thirty-two tiles between two changes of shape, and what every run of it ends with.
-/
module

public import proofs.«01_k».proof.Defs
public import proofs.«01_k».proof.Proof.HandI
public import proofs.«01_k».proof.Proof.BlocksI
public import proofs.«01_k».proof.Proof.TaskI
public import proofs.«01_k».proof.Proof.StartI
public import proofs.«01_k».proof.Proof.Shares
public import proofs.«01_k».proof.Proof.RowI
public import proofs.«01_k».proof.Proof.Steps
public import proofs.«01_k».proof.Proof.Windows
public import proofs.«01_k».proof.Proof.Spec
public import proofs.«01_k».proof.Proof.OffI
public import proofs.«01_k».proof.Proof.PayI
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Task

open Cert.KernelIdeal Cert.KernelIdeal.Gen Cert.Proof

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The program as the launch sees it -/

abbrev D : Defs nD τ sig (Elt F) (ΛP (F := F)) := Pipeline.defs pcfgs defs₀
abbrev 𝒱 : Variants := 𝒱₀.lift
abbrev v₀ : 𝒱.V := Sum.inl none

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

abbrev EH : Emb UH (MT nD τ sig (HIx 1) (Elt F) ℕ UU ℕ) := embL

/-! ## What the launch carries -/

/-- A core's share of the two arrays its tiles read, and its half of the one they write, at contents `f`. -/
abbrev Part (d : Dev nD) (f : Buf (Elt F) (outLoc d)) (c : Fin 2) : sProp 𝕄 :=
  iprop((inLoc d ↦{coreShare c} inC m d) ∗ (tabLoc d ↦{coreShare c} tabC d) ∗ outLoc d ↦[half c]{fullShare} f)

/-- Each core is handed its part, and each of its tiles its piece of that; back come the same, the result written. -/
def P : (K (F := F)).Pay (nD := nD) (Val := Elt F) (Name := ℕ) (U := UU) where
  st := fun q d c => match q with | 0 => Part m d (m (outLoc d)) c
  dn := fun q d c => match q with | 0 => Part m d (outC m d) c
  go := fun q d c s => match q with | 0 => Piece m d (m (outLoc d)) (spot c s)
  td := fun q d c s => match q with | 0 => Piece m d (outC m d) (spot c s)
  x := fun _ _ => iprop(emp)

instance P_storable : (P (F := F) m).IsStorable where
  st q d c := match q with | 0 => (inferInstance : BI.Storable (upEmb : UEmb _ 𝕄) (Part m d (m (outLoc d)) c))
  dn q d c := match q with | 0 => (inferInstance : BI.Storable (upEmb : UEmb _ 𝕄) (Part m d (outC m d) c))
  go q d c s := match q with | 0 => (inferInstance : BI.Storable (upEmb : UEmb _ 𝕄) (Piece m d (m (outLoc d)) (spot c s)))
  td q d c s := match q with | 0 => (inferInstance : BI.Storable (upEmb : UEmb _ 𝕄) (Piece m d (outC m d) (spot c s)))

/-- The parts are the whole, and a part is its pieces. -/
theorem parts_eq (d : Dev nD) (f : Buf (Elt F) (outLoc d)) :
    (iprop((inLoc d ↦{fullShare} inC m d) ∗ (tabLoc d ↦{fullShare} tabC d) ∗ outLoc d ↦{fullShare} f) : sProp 𝕄)
      = bigSep Finset.univ fun c : Fin 2 => Part m d f c := by
  unfold Part
  rw [bigSep_sep', bigSep_sep', pointsTo_cut Finset.univ (inC m d) 1 fullShare, pointsTo_cut Finset.univ (tabC d) 1 fullShare,
    ← pointsTo_biUnion Finset.univ (ℓ := outLoc d) half halves_disjoint, halves_cover]

theorem pieces_eq (d : Dev nD) (f : Buf (Elt F) (outLoc d)) (c : Fin 2) :
    (Part m d f c : sProp 𝕄) = bigSep Finset.univ fun s : Fin 16 => Piece m d f (core c s) := by
  unfold Part Piece
  rw [bigSep_sep', bigSep_sep', pointsTo_cut Finset.univ (inC m d) 15 (coreShare c), pointsTo_cut Finset.univ (tabC d) 15 (coreShare c),
    half, pointsTo_biUnion Finset.univ (ℓ := outLoc d) (fun s => (block (core c s)).set) (blocks_disjoint c)]
  rfl

theorem vecSplit : (K (F := F)).VecSplit' (P m) 0 := by
  intro d c
  show Part m d (m (outLoc d)) c ⊢ |={Set.univ}=> iprop((bigSep Finset.univ fun s : Fin 16 => Piece m d (m (outLoc d)) (core c s))
      ∗ ((bigSep Finset.univ fun s : Fin 16 => Piece m d (outC m d) (core c s)) -∗ Part m d (outC m d) c))
  rw [pieces_eq, pieces_eq]
  iintro H
  imodintro
  isplitl [H]; · iexact H
  iintro H
  iexact H

/-! ## The tiles' obligation -/

theorem defs₀_vector (c : Fin τ.nSC) (s : Fin τ.nSub) :
    defs₀ (F := F) (.scVector c s) 0 ()
      = SparseCore.onTile hcore0 hsub0 (fun c s => cc0__sc_shift (spot c s) (Memref.whole main_v0_scv) (Memref.isWhole_whole _)
          (Memref.whole main_c_scv) (Memref.isWhole_whole _) (Memref.whole main_v1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scoped0 cc0_scoped1 cc0_scoped2 cc0_scoped3 cc0_scoped4 cc0_scoped5 cc0_scoped6 cc0_scoped7 cc0_scoped8 cc0_scoped9) ⟨⟩ c s := rfl

omit [FloatOps F] in
theorem own_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'
  isplitr
  · ipureintro; exact fun p hp => (h p hp).imp_right Or.inl
  iexact HO

set_option maxRecDepth 16384 in
theorem tileObl : (K (F := F)).TileObl (D (F := F)) 𝒱 (P m) v₀ 0 := by
  intro d c s O W hO _ _
  simp only [show (P m).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]
  simp only [SparseCore.onTile, hcs, and_self, ↓reduceDIte]
  exact (tile_body m d (spot ⟨_, hcs.1⟩ ⟨_, hcs.2⟩) facts O W hO).trans (wp_mono frame _ _ fun _ => own_waits)

/-! ## The launch's ghost state -/

def u₀ : UU := (initOf (K (F := F)).hsCells (K (F := F)).hsToks, 1)

omit [FloatOps F] in
/-- Nothing for each of several is nothing. -/
theorem nothing_each {α : Type} (s : Finset α) : (bigSep s fun _ => (iprop(emp) : sProp 𝕄)) = iprop(emp) := bigSep_emp_const s

theorem start_ghost : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨H, -⟩
  imodintro
  isplitl [H]; · iexact H
  isplitr
  · rw [nothing_each]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing_each]
  iempintro

/-! ## The program on the TensorCore -/

abbrev argRef : DevRef τ sig := Proc.devRef .tc (main_arg0 : Ref sig .tc)
abbrev tabRef : DevRef τ sig := Proc.devRef .tc (main_c : Ref sig .tc)
abbrev inRef : DevRef τ sig := Proc.devRef .tc (main_v0 : Ref sig .tc)
abbrev outRef : DevRef τ sig := Proc.devRef .tc (main_v1 : Ref sig .tc)
abbrev resRef : DevRef τ sig := Proc.devRef .tc (main_v2 : Ref sig .tc)

abbrev opTab : HloOp τ sig (Elt F) := StableHlo.nullary main_c (fun i => lit0 (S1312.rowMajor i))
abbrev opIn : HloOp τ sig (Elt F) := StableHlo.reshape main_arg0 main_v0 (rfl : (.f32 : EltTy) = .f32) shapeCasts_S512x512x224_S512x114688
abbrev opRes : HloOp τ sig (Elt F) := StableHlo.reshape main_v1 main_v2 (rfl : (.f32 : EltTy) = .f32) shapeCasts_S512x114688_S512x512x224

abbrev five : Finset (DevRef τ sig) := {argRef, tabRef, inRef, outRef, resRef}

omit [FloatOps F] in
theorem held_five (d : Dev nD) (V : Valuation τ sig (Elt F)) :
    (held (SparseCore.T d) five V : sProp 𝕄)
      = iprop((argLoc d ↦{fullShare} V argRef) ∗ (tabLoc d ↦{fullShare} V tabRef) ∗ (inLoc d ↦{fullShare} V inRef)
          ∗ (outLoc d ↦{fullShare} V outRef) ∗ resLoc d ↦{fullShare} V resRef) := by
  unfold StableHlo.held five
  rw [SparseCore.bigSep_insert' (by decide), SparseCore.bigSep_insert' (by decide), SparseCore.bigSep_insert' (by decide),
    SparseCore.bigSep_insert' (by decide), bigSep_singleton]

/-- The buffers at the launch, and after the first two operations. -/
def V0 (d : Dev nD) : Valuation τ sig (Elt F) := fun b => m (d, b)
def V2 (d : Dev nD) : Valuation τ sig (Elt F) := (opIn (F := F)).result ((opTab (F := F)).result (V0 m d))

/-- After the tiles have run. -/
def V3 (d : Dev nD) : Valuation τ sig (Elt F) := Function.update (V2 m d) outRef (outC m d)

omit [FloatOps F] in
theorem unscoped_five (d : Dev nD) : (unscopedBufs d (fun b => m ((SparseCore.T d).loc b)) : sProp 𝕄) = held (SparseCore.T d) five (V0 m d) := by
  unfold unscopedBufs
  rw [show (Finset.univ.filter fun b : Ref sig .tc => ¬ b.isScoped) = {main_arg0, main_c, main_v0, main_v1, main_v2} by decide,
    SparseCore.bigSep_insert' (by decide), SparseCore.bigSep_insert' (by decide), SparseCore.bigSep_insert' (by decide),
    SparseCore.bigSep_insert' (by decide), bigSep_singleton, held_five]
  rfl

omit [FloatOps F] in
theorem V2_arg (d : Dev nD) : V2 m d argRef = m (argLoc d) := by
  unfold V2
  rw [(opIn (F := F)).result_of_not_mem _ (show argRef ∉ ({inRef} : Finset (DevRef τ sig)) by decide),
    (opTab (F := F)).result_of_not_mem _ (show argRef ∉ ({tabRef} : Finset (DevRef τ sig)) by decide)]
  rfl

omit [FloatOps F] in
theorem V2_tab (d : Dev nD) : V2 m d tabRef = tabC (F := F) d := by
  unfold V2
  rw [(opIn (F := F)).result_of_not_mem _ (show tabRef ∉ ({inRef} : Finset (DevRef τ sig)) by decide)]
  exact StableHlo.nullary_result _ _ _ _

omit [FloatOps F] in
theorem V2_in (d : Dev nD) : V2 m d inRef = inC m d := by
  unfold V2
  refine (StableHlo.reshape_result _ _ _ _ _ _ _).trans ?_
  rw [(opTab (F := F)).result_of_not_mem _ (show argRef ∉ ({tabRef} : Finset (DevRef τ sig)) by decide)]
  rfl

omit [FloatOps F] in
theorem V2_out (d : Dev nD) : V2 m d outRef = m (outLoc d) := by
  unfold V2
  rw [(opIn (F := F)).result_of_not_mem _ (show outRef ∉ ({inRef} : Finset (DevRef τ sig)) by decide),
    (opTab (F := F)).result_of_not_mem _ (show outRef ∉ ({tabRef} : Finset (DevRef τ sig)) by decide)]
  rfl

theorem end_arg (d : Dev nD) : (opRes (F := F)).result (V3 m d) argRef = m (argLoc d) := by
  rw [(opRes (F := F)).result_of_not_mem _ (show argRef ∉ ({resRef} : Finset (DevRef τ sig)) by decide)]
  exact (Function.update_of_ne (show argRef ≠ outRef by decide) _ _).trans (V2_arg m d)

theorem end_res (d : Dev nD) : (opRes (F := F)).result (V3 m d) resRef = resC m d := by
  refine (StableHlo.reshape_result _ _ _ _ _ _ _).trans ?_
  rw [show V3 m d outRef = outC m d from Function.update_self _ _ _]
  rfl

theorem st_eq (d : Dev nD) : (bigSep Finset.univ fun c : Fin ((K (F := F)).nCore 0) => (P m).st 0 d c)
    = iprop((inLoc d ↦{fullShare} inC m d) ∗ (tabLoc d ↦{fullShare} tabC d) ∗ outLoc d ↦{fullShare} m (outLoc d)) :=
  (parts_eq m d (m (outLoc d))).symm

theorem dn_eq (d : Dev nD) : (bigSep Finset.univ fun c : Fin ((K (F := F)).nCore 0) => (P m).dn 0 d c)
    = iprop((inLoc d ↦{fullShare} inC m d) ∗ (tabLoc d ↦{fullShare} tabC d) ∗ outLoc d ↦{fullShare} outC m d) :=
  (parts_eq m d (outC m d)).symm

omit [FloatOps F] in
theorem tab_sub : (opTab (F := F)).bufs ⊆ five := show ({tabRef} : Finset (DevRef τ sig)) ⊆ five by decide
omit [FloatOps F] in
theorem in_sub : (opIn (F := F)).bufs ⊆ five := show ({argRef, inRef} : Finset (DevRef τ sig)) ⊆ five by decide
omit [FloatOps F] in
theorem res_sub : (opRes (F := F)).bufs ⊆ five := show ({outRef, resRef} : Finset (DevRef τ sig)) ⊆ five by decide

/-- What is read off the end: the argument as it was, and the result. -/
abbrev Ends (d : Dev nD) : sProp 𝕄 := iprop((argLoc d ↦{fullShare} m (argLoc d)) ∗ resLoc d ↦{fullShare} resC m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ Ends m d ∗ (K (F := F)).tcEnd d) := by
  unfold SparseCore.Cfg.tcRes SparseCore.Cfg.tcEnd
  rw [unscoped_five]
  simp only [main, wp_bind, wp_pure]
  iintro ⟨#Hctx, Hst, ⟨Hb, Hheld, Hts, -⟩, -⟩
  iapply (wp_hlo_within 𝒱 (SparseCore.T d) none Set.univ (op := opTab) (S := five) tab_sub (V := V0 m d)) $$ [Hb Hheld]
  · isplitl [Hb] <;> iassumption
  iintro ⟨Hb, Hheld⟩
  rw [wp_ret]; imodintro
  iapply (wp_hlo_within 𝒱 (SparseCore.T d) none Set.univ (op := opIn) (S := five) in_sub (V := (opTab (F := F)).result (V0 m d))) $$ [Hb Hheld]
  · isplitl [Hb] <;> iassumption
  iintro ⟨Hb, Hheld⟩
  rw [wp_ret]; imodintro
  ihave Hh := (Entails.of_eq (show (held (SparseCore.T d) five ((opIn (F := F)).result ((opTab (F := F)).result (V0 m d))) : sProp 𝕄) = _ from
    held_five d (V2 m d))) $$ Hheld
  icases Hh with ⟨Harg, Htab, Hin, Hout, Hres⟩
  iapply ((K (F := F)).wp_run (D (F := F)) 𝒱 (EH := EH) (P := P m) κ d 0) $$ [Hst Harg Htab Hin Hout Hres Hb Hts]
  isplitr; · iexact Hctx
  isplitl [Hst]; · iexact Hst
  isplitl [Htab Hin Hout]
  · rw [st_eq, V2_tab, V2_in, V2_out]
    isplitl [Hin]; · iexact Hin
    isplitl [Htab]; · iexact Htab
    iexact Hout
  iintro ⟨Hst, Hdn⟩
  ihave Hdn' := (Entails.of_eq (dn_eq m d)) $$ Hdn
  icases Hdn' with ⟨Hin, Htab, Hout⟩
  iapply (wp_hlo_within 𝒱 (SparseCore.T d) none Set.univ (op := opRes) (S := five) res_sub (V := V3 m d)) $$ [Hb Harg Htab Hin Hout Hres]
  · isplitl [Hb]; · iexact Hb
    rw [held_five, show V3 m d argRef = V2 m d argRef from Function.update_of_ne (by decide) _ _,
      show V3 m d tabRef = tabC d from (Function.update_of_ne (by decide) _ _).trans (V2_tab m d),
      show V3 m d inRef = inC m d from (Function.update_of_ne (by decide) _ _).trans (V2_in m d),
      show V3 m d outRef = outC m d from Function.update_self _ _ _,
      show V3 m d resRef = V2 m d resRef from Function.update_of_ne (by decide) _ _]
    isplitl [Harg]; · iexact Harg
    isplitl [Htab]; · iexact Htab
    isplitl [Hin]; · iexact Hin
    isplitl [Hout]; · iexact Hout
    iexact Hres
  iintro ⟨Hb, Hheld⟩
  ihave Hh := (Entails.of_eq (held_five d ((opRes (F := F)).result (V3 m d)))) $$ Hheld
  icases Hh with ⟨Harg, -, -, -, Hres⟩
  rw [end_arg, end_res]
  rw [wp_ret]; imodintro; imodintro
  isplitl [Hst]; · iexact Hst
  isplitr [Hb Hts]
  · isplitl [Harg]; · iexact Harg
    iexact Hres
  isplitl [Hb] <;> iassumption

def AtEnd (d : Dev nD) (s : Phys nD τ sig (Elt F)) : Prop := s.mem.mem (argLoc d) = m (argLoc d) ∧ s.mem.mem (resLoc d) = resC m d

set_option maxRecDepth 16384 in
theorem ends (d : Dev nD) (s : Phys nD τ sig (Elt F)) : iprop(Ends m d ∗ SI s) ⊢ (⌜AtEnd m d s⌝ : sProp 𝕄) := by
  iintro ⟨⟨Ha, Hr⟩, HSI⟩
  ihave H := (persistent_entails_right (SI_pointsTo_agree (st := s) (ℓ := argLoc d) (I := Finset.univ) (q := fullShare) (f := m (argLoc d)))) $$ [HSI Ha]
  · isplitl [HSI] <;> iassumption
  icases H with ⟨%h1, HSI, -⟩
  ihave H := (SI_pointsTo_agree (st := s) (ℓ := resLoc d) (I := Finset.univ) (q := fullShare) (f := resC m d)) $$ [HSI Hr]
  · isplitl [HSI] <;> iassumption
  icases H with %h2
  ipureintro
  exact ⟨funext fun i => h1 i (Finset.mem_univ i), funext fun i => h2 i (Finset.mem_univ i)⟩

/-! ## Every run of the program -/

def Final : PUnit × MemSt nD τ sig (Elt F) → Prop := fun r =>
  (∀ c : Dev nD, r.2.mem (argLoc c) = m (argLoc c) ∧ r.2.mem (resLoc c) = resC m c) ∧ r.2.sem = fun _ => 0

theorem run_main [∀ e, Nonempty (Elt F e)] :
    θ_run (Cert.KernelIdeal.defs (F := F)) (Cert.KernelIdeal.threads (F := F)) ⟨m, fun _ => 0, ρ⟩ (Final m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (Ends m) (u₀ (F := F)) (sep_elim_left.trans (start_ghost m)) (hmain m ρ) (AtEnd m) (ends m) (Final m) (fun _ h hz => ⟨h, hz⟩)

end Cert.KernelIdeal.Task
-- ==== Proof.RefI.lean ====
/-
  The reference's result, entry by entry: it is the shifted array the tiles write, with each row's pixels and channels
  in two axes.
-/
module

public import proofs.«01_k».proof.Defs
public import proofs.«01_k».proof.Proof.Spec
public import proofs.«01_k».proof.Proof.Windows
public import proofs.«01_k».proof.Proof.Gen.ReferenceIdeal.Run
public import Idealize.ShloMosaic.Lib.Pipeline.Value
public import Idealize.ShloMosaic.Lib.ValueIdxCore
public import Idealize.ShloMosaic.Lib.WordCmp
public import Idealize.ShloMosaic.Lib.IdealHost
public import Idealize.ShloMosaic.Lib.Tactic

@[expose] public section

noncomputable section

namespace Cert.ReferenceIdeal.Shift

open Cert.ReferenceIdeal Cert.ReferenceIdeal.Gen Cert.ReferenceIdeal.Value Cert.Proof
open Idealize.ShloMosaic Idealize.ShloMosaic.ValueIdx Idealize.SL.Sem

variable {F : FTy → Type} [FloatOps F]

/-! ## The array by its three coordinates -/

/-- The index at three numbers. -/
abbrev pt (a b c : ℕ) [NeZero a] [NeZero b] [NeZero c] (r p q : ℕ) : (⟨3, ![a, b, c]⟩ : Shape).Idx :=
  ValueIdx.ix3 (Fin.ofNat a r) (Fin.ofNat b p) (Fin.ofNat c q)

/-- The entry at image row `r`, pixel `p` and channel `c`. -/
def at3 {α : Type} (x : S512x512x224.Idx → α) (r p c : ℕ) : α := x (pt 512 512 224 r p c)

theorem ix3_val {a b c r p q : ℕ} [NeZero a] [NeZero b] [NeZero c] (hr : r < a) (hp : p < b) (hq : q < c) :
    ((pt a b c r p q) 0).val = r ∧ ((pt a b c r p q) 1).val = p
      ∧ ((pt a b c r p q) 2).val = q :=
  ⟨Nat.mod_eq_of_lt hr, Nat.mod_eq_of_lt hp, Nat.mod_eq_of_lt hq⟩

theorem at3_of_eq {α : Type} (x : S512x512x224.Idx → α) (y : S512x512x224.Idx) {r p c : ℕ} (h0 : (y 0).val = r) (h1 : (y 1).val = p) (h2 : (y 2).val = c) :
    x y = at3 x r p c := by
  subst h0 h1 h2
  unfold at3
  refine congrArg x (funext fun a => Fin.ext ?_)
  match a with
  | 0 => exact (Nat.mod_eq_of_lt (y 0).isLt).symm
  | 1 => exact (Nat.mod_eq_of_lt (y 1).isLt).symm
  | 2 => exact (Nat.mod_eq_of_lt (y 2).isLt).symm

/-! ## The four moves -/

section Moves

variable (x out : (⟨S512x512x224, .f32⟩ : BufTy).Contents (Elt F)) {r p c : ℕ} (hr : r < 512) (hp : p < 512) (hc : c < 224)
include hr hp hc

theorem left_at : at3 (fn_main_v34 (F := F) (extractStridedSlice S512x511x224 ![0, 1, 0] x slices_S512x512x224_S512x511x224_0_1_0)
      (extractStridedSlice S512x1x224 ![0, 511, 0] out slices_S512x512x224_S512x1x224_0_511_0)) r p c
    = if p < 511 then at3 x r (p + 1) c else at3 out r 511 c := by
  obtain ⟨e0, e1, e2⟩ := ix3_val hr hp hc
  unfold fn_main_v34
  by_cases h : p < 511
  · rw [if_pos h]
    obtain ⟨f0, f1, f2⟩ := ix3_val (b := 511) hr h hc
    refine (concatenate_pair_apply_left (t := S512x512x224) (s₁ := S512x511x224) (s₂ := S512x1x224) 1 _ _ _ _ rfl (pt 512 511 224 r p c) ?_).trans ?_
    · intro b
      match b with
      | 0 => exact f0.trans e0.symm
      | 1 => exact f1.trans e1.symm
      | 2 => exact f2.trans e2.symm
    obtain ⟨g0, g1, g2⟩ := ix3_val (b := 512) hr (show p + 1 < 512 by omega) hc
    refine extractStridedSlice_apply _ _ _ _ (pt 512 512 224 r (p + 1) c) ?_
    intro b
    match b with
    | 0 => exact g0.trans (by rw [show (![0, 1, 0] : Fin 3 → ℕ) 0 = 0 from rfl, Nat.zero_add]; exact f0.symm)
    | 1 => exact g1.trans (by rw [Nat.add_comm]; exact congrArg (1 + ·) f1.symm)
    | 2 => exact g2.trans (by rw [show (![0, 1, 0] : Fin 3 → ℕ) 2 = 0 from rfl, Nat.zero_add]; exact f2.symm)
  · rw [if_neg h]
    obtain ⟨f0, f1, f2⟩ := ix3_val (b := 1) hr (show 0 < 1 by omega) hc
    refine (concatenate_pair_apply_right (t := S512x512x224) (s₁ := S512x511x224) (s₂ := S512x1x224) 1 _ _ _ _ rfl rfl (pt 512 1 224 r 0 c) ?_ ?_).trans ?_
    · intro b hb
      match b with
      | 0 => exact f0.trans e0.symm
      | 1 => exact absurd rfl hb
      | 2 => exact f2.trans e2.symm
    · exact (show 0 + 511 = p by omega).trans e1.symm
    obtain ⟨g0, g1, g2⟩ := ix3_val (b := 512) hr (show 511 < 512 by omega) hc
    refine extractStridedSlice_apply _ _ _ _ (pt 512 512 224 r 511 c) ?_
    intro b
    match b with
    | 0 => exact g0.trans (by rw [show (![0, 511, 0] : Fin 3 → ℕ) 0 = 0 from rfl, Nat.zero_add]; exact f0.symm)
    | 1 => exact g1
    | 2 => exact g2.trans (by rw [show (![0, 511, 0] : Fin 3 → ℕ) 2 = 0 from rfl, Nat.zero_add]; exact f2.symm)

theorem right_at : at3 (fn_main_v38 (F := F) (extractStridedSlice S512x1x224 ![0, 0, 0] out slices_S512x512x224_S512x1x224_0_0_0)
      (extractStridedSlice S512x511x224 ![0, 0, 0] x slices_S512x512x224_S512x511x224_0_0_0)) r p c
    = if 0 < p then at3 x r (p - 1) c else at3 out r 0 c := by
  obtain ⟨e0, e1, e2⟩ := ix3_val hr hp hc
  unfold fn_main_v38
  by_cases h : 0 < p
  · rw [if_pos h]
    obtain ⟨f0, f1, f2⟩ := ix3_val (b := 511) hr (show p - 1 < 511 by omega) hc
    refine (concatenate_pair_apply_right (t := S512x512x224) (s₁ := S512x1x224) (s₂ := S512x511x224) 1 _ _ _ _ rfl rfl (pt 512 511 224 r (p - 1) c) ?_ ?_).trans ?_
    · intro b hb
      match b with
      | 0 => exact f0.trans e0.symm
      | 1 => exact absurd rfl hb
      | 2 => exact f2.trans e2.symm
    · exact (congrArg (· + 1) f1).trans ((show p - 1 + 1 = p by omega).trans e1.symm)
    obtain ⟨g0, g1, g2⟩ := ix3_val (b := 512) hr (show p - 1 < 512 by omega) hc
    refine extractStridedSlice_apply _ _ _ _ (pt 512 512 224 r (p - 1) c) ?_
    intro b
    match b with
    | 0 => exact g0.trans (by rw [show (![0, 0, 0] : Fin 3 → ℕ) 0 = 0 from rfl, Nat.zero_add]; exact f0.symm)
    | 1 => exact g1.trans (by rw [show (![0, 0, 0] : Fin 3 → ℕ) 1 = 0 from rfl, Nat.zero_add]; exact f1.symm)
    | 2 => exact g2.trans (by rw [show (![0, 0, 0] : Fin 3 → ℕ) 2 = 0 from rfl, Nat.zero_add]; exact f2.symm)
  · rw [if_neg h]
    obtain ⟨f0, f1, f2⟩ := ix3_val (b := 1) hr (show 0 < 1 by omega) hc
    refine (concatenate_pair_apply_left (t := S512x512x224) (s₁ := S512x1x224) (s₂ := S512x511x224) 1 _ _ _ _ rfl (pt 512 1 224 r 0 c) ?_).trans ?_
    · intro b
      match b with
      | 0 => exact f0.trans e0.symm
      | 1 => exact (show 0 = p by omega).trans e1.symm
      | 2 => exact f2.trans e2.symm
    obtain ⟨g0, g1, g2⟩ := ix3_val (b := 512) hr (show 0 < 512 by omega) hc
    refine extractStridedSlice_apply _ _ _ _ (pt 512 512 224 r 0 c) ?_
    intro b
    match b with
    | 0 => exact g0.trans (by rw [show (![0, 0, 0] : Fin 3 → ℕ) 0 = 0 from rfl, Nat.zero_add]; exact f0.symm)
    | 1 => exact g1
    | 2 => exact g2.trans (by rw [show (![0, 0, 0] : Fin 3 → ℕ) 2 = 0 from rfl, Nat.zero_add]; exact f2.symm)

theorem up_at : at3 (fn_main_v42 (F := F) (extractStridedSlice S511x512x224 ![1, 0, 0] x slices_S512x512x224_S511x512x224_1_0_0)
      (extractStridedSlice S1x512x224 ![511, 0, 0] out slices_S512x512x224_S1x512x224_511_0_0)) r p c
    = if r < 511 then at3 x (r + 1) p c else at3 out 511 p c := by
  obtain ⟨e0, e1, e2⟩ := ix3_val hr hp hc
  unfold fn_main_v42
  by_cases h : r < 511
  · rw [if_pos h]
    obtain ⟨f0, f1, f2⟩ := ix3_val (a := 511) h hp hc
    refine (concatenate_pair_apply_left (t := S512x512x224) (s₁ := S511x512x224) (s₂ := S1x512x224) 0 _ _ _ _ rfl (pt 511 512 224 r p c) ?_).trans ?_
    · intro b
      match b with
      | 0 => exact f0.trans e0.symm
      | 1 => exact f1.trans e1.symm
      | 2 => exact f2.trans e2.symm
    obtain ⟨g0, g1, g2⟩ := ix3_val (a := 512) (show r + 1 < 512 by omega) hp hc
    refine extractStridedSlice_apply _ _ _ _ (pt 512 512 224 (r + 1) p c) ?_
    intro b
    match b with
    | 0 => exact g0.trans (by rw [Nat.add_comm]; exact congrArg (1 + ·) f0.symm)
    | 1 => exact g1.trans (by rw [show (![1, 0, 0] : Fin 3 → ℕ) 1 = 0 from rfl, Nat.zero_add]; exact f1.symm)
    | 2 => exact g2.trans (by rw [show (![1, 0, 0] : Fin 3 → ℕ) 2 = 0 from rfl, Nat.zero_add]; exact f2.symm)
  · rw [if_neg h]
    obtain ⟨f0, f1, f2⟩ := ix3_val (a := 1) (show 0 < 1 by omega) hp hc
    refine (concatenate_pair_apply_right (t := S512x512x224) (s₁ := S511x512x224) (s₂ := S1x512x224) 0 _ _ _ _ rfl rfl (pt 1 512 224 0 p c) ?_ ?_).trans ?_
    · intro b hb
      match b with
      | 0 => exact absurd rfl hb
      | 1 => exact f1.trans e1.symm
      | 2 => exact f2.trans e2.symm
    · exact (show 0 + 511 = r by omega).trans e0.symm
    obtain ⟨g0, g1, g2⟩ := ix3_val (a := 512) (show 511 < 512 by omega) hp hc
    refine extractStridedSlice_apply _ _ _ _ (pt 512 512 224 511 p c) ?_
    intro b
    match b with
    | 0 => exact g0
    | 1 => exact g1.trans (by rw [show (![511, 0, 0] : Fin 3 → ℕ) 1 = 0 from rfl, Nat.zero_add]; exact f1.symm)
    | 2 => exact g2.trans (by rw [show (![511, 0, 0] : Fin 3 → ℕ) 2 = 0 from rfl, Nat.zero_add]; exact f2.symm)

theorem down_at : at3 (fn_main_v46 (F := F) (extractStridedSlice S1x512x224 ![0, 0, 0] out slices_S512x512x224_S1x512x224_0_0_0)
      (extractStridedSlice S511x512x224 ![0, 0, 0] x slices_S512x512x224_S511x512x224_0_0_0)) r p c
    = if 0 < r then at3 x (r - 1) p c else at3 out 0 p c := by
  obtain ⟨e0, e1, e2⟩ := ix3_val hr hp hc
  unfold fn_main_v46
  by_cases h : 0 < r
  · rw [if_pos h]
    obtain ⟨f0, f1, f2⟩ := ix3_val (a := 511) (show r - 1 < 511 by omega) hp hc
    refine (concatenate_pair_apply_right (t := S512x512x224) (s₁ := S1x512x224) (s₂ := S511x512x224) 0 _ _ _ _ rfl rfl (pt 511 512 224 (r - 1) p c) ?_ ?_).trans ?_
    · intro b hb
      match b with
      | 0 => exact absurd rfl hb
      | 1 => exact f1.trans e1.symm
      | 2 => exact f2.trans e2.symm
    · exact (congrArg (· + 1) f0).trans ((show r - 1 + 1 = r by omega).trans e0.symm)
    obtain ⟨g0, g1, g2⟩ := ix3_val (a := 512) (show r - 1 < 512 by omega) hp hc
    refine extractStridedSlice_apply _ _ _ _ (pt 512 512 224 (r - 1) p c) ?_
    intro b
    match b with
    | 0 => exact g0.trans (by rw [show (![0, 0, 0] : Fin 3 → ℕ) 0 = 0 from rfl, Nat.zero_add]; exact f0.symm)
    | 1 => exact g1.trans (by rw [show (![0, 0, 0] : Fin 3 → ℕ) 1 = 0 from rfl, Nat.zero_add]; exact f1.symm)
    | 2 => exact g2.trans (by rw [show (![0, 0, 0] : Fin 3 → ℕ) 2 = 0 from rfl, Nat.zero_add]; exact f2.symm)
  · rw [if_neg h]
    obtain ⟨f0, f1, f2⟩ := ix3_val (a := 1) (show 0 < 1 by omega) hp hc
    refine (concatenate_pair_apply_left (t := S512x512x224) (s₁ := S1x512x224) (s₂ := S511x512x224) 0 _ _ _ _ rfl (pt 1 512 224 0 p c) ?_).trans ?_
    · intro b
      match b with
      | 0 => exact (show 0 = r by omega).trans e0.symm
      | 1 => exact f1.trans e1.symm
      | 2 => exact f2.trans e2.symm
    obtain ⟨g0, g1, g2⟩ := ix3_val (a := 512) (show 0 < 512 by omega) hp hc
    refine extractStridedSlice_apply _ _ _ _ (pt 512 512 224 0 p c) ?_
    intro b
    match b with
    | 0 => exact g0
    | 1 => exact g1.trans (by rw [show (![0, 0, 0] : Fin 3 → ℕ) 1 = 0 from rfl, Nat.zero_add]; exact f1.symm)
    | 2 => exact g2.trans (by rw [show (![0, 0, 0] : Fin 3 → ℕ) 2 = 0 from rfl, Nat.zero_add]; exact f2.symm)

end Moves

/-! ## The masks -/

/-- Where the channel is `b`. -/
def isAt (b : BitVec 32) : IVec S512x512x224 1 :=
  cmpi .eq (iotaInDim S512x512x224 32 2) (broadcastInDim S512x512x224 ![] bcast_S_S512x512x224 (constantI S_ 32 b))

def fwdMask : IVec S512x512x224 1 := ori (ori (ori (ori (isAt 36#32) (isAt 84#32)) (isAt 102#32)) (isAt 110#32)) (isAt 160#32)
def bwdMask : IVec S512x512x224 1 := ori (ori (ori (ori (isAt 0#32) (isAt 97#32)) (isAt 111#32)) (isAt 159#32)) (isAt 221#32)
def restMask : IVec S512x512x224 1 := noti (ori fwdMask bwdMask)

/-- What the masks say of a channel, all two hundred and twenty-four of them looked at. -/
theorem masks_dec : ∀ c : Fin 224,
    (let q (n : ℕ) : BitVec 1 := IntOp.cmpi .eq (BitVec.ofNat 32 c.val) (BitVec.ofNat 32 n)
     let f := IntOp.ori (IntOp.ori (IntOp.ori (IntOp.ori (q 36) (q 84)) (q 102)) (q 110)) (q 160)
     let b := IntOp.ori (IntOp.ori (IntOp.ori (IntOp.ori (q 0) (q 97)) (q 111)) (q 159)) (q 221)
     f = BitVec.ofBool (decide (isFwd c.val)) ∧ b = BitVec.ofBool (decide (isBwd c.val))
      ∧ ~~~(IntOp.ori f b) = BitVec.ofBool (decide (¬ isFwd c.val ∧ ¬ isBwd c.val))) := by decide

theorem fwd_at {r p c : ℕ} (hc : c < 224) : at3 fwdMask r p c = BitVec.ofBool (decide (isFwd c)) :=
  (show at3 fwdMask r p c = _ from (masks_dec (Fin.ofNat 224 c)).1).trans (by rw [show (Fin.ofNat 224 c).val = c from Nat.mod_eq_of_lt hc])

theorem bwd_at {r p c : ℕ} (hc : c < 224) : at3 bwdMask r p c = BitVec.ofBool (decide (isBwd c)) :=
  (show at3 bwdMask r p c = _ from (masks_dec (Fin.ofNat 224 c)).2.1).trans (by rw [show (Fin.ofNat 224 c).val = c from Nat.mod_eq_of_lt hc])

theorem rest_at {r p c : ℕ} (hc : c < 224) : at3 restMask r p c = BitVec.ofBool (decide (¬ isFwd c ∧ ¬ isBwd c)) :=
  (show at3 restMask r p c = _ from (masks_dec (Fin.ofNat 224 c)).2.2).trans (by rw [show (Fin.ofNat 224 c).val = c from Nat.mod_eq_of_lt hc])

theorem select_at3 {α : Type} (k : IVec S512x512x224 1) (x y : S512x512x224.Idx → α) {r p c : ℕ} {P : Prop} [Decidable P]
    (h : at3 k r p c = BitVec.ofBool (decide P)) : at3 (select k x y) r p c = if P then at3 x r p c else at3 y r p c := by
  show Scalar.select (at3 k r p c) (at3 x r p c) (at3 y r p c) = _
  rw [h]
  exact Idealize.ShloMosaic.WordCmp.select_decide P _ _

/-! ## The stages -/

variable (x : (⟨S512x512x224, .f32⟩ : BufTy).Contents (Elt F))

def stage0 : (⟨S512x512x224, .f32⟩ : BufTy).Contents (Elt F) := broadcastInDim S512x512x224 ![] bcast_S_S512x512x224 (constant S_ .f32 0x00000000#32)

def stage1 : (⟨S512x512x224, .f32⟩ : BufTy).Contents (Elt F) :=
  select fwdMask (fn_main_v34 (F := F) (extractStridedSlice S512x511x224 ![0, 1, 0] x slices_S512x512x224_S512x511x224_0_1_0)
      (extractStridedSlice S512x1x224 ![0, 511, 0] stage0 slices_S512x512x224_S512x1x224_0_511_0)) stage0

def stage2 : (⟨S512x512x224, .f32⟩ : BufTy).Contents (Elt F) :=
  select bwdMask (fn_main_v38 (F := F) (extractStridedSlice S512x1x224 ![0, 0, 0] (stage1 x) slices_S512x512x224_S512x1x224_0_0_0)
      (extractStridedSlice S512x511x224 ![0, 0, 0] x slices_S512x512x224_S512x511x224_0_0_0)) (stage1 x)

def stage3 : (⟨S512x512x224, .f32⟩ : BufTy).Contents (Elt F) :=
  select fwdMask (fn_main_v42 (F := F) (extractStridedSlice S511x512x224 ![1, 0, 0] x slices_S512x512x224_S511x512x224_1_0_0)
      (extractStridedSlice S1x512x224 ![511, 0, 0] (stage2 x) slices_S512x512x224_S1x512x224_511_0_0)) (stage2 x)

def stage4 : (⟨S512x512x224, .f32⟩ : BufTy).Contents (Elt F) :=
  select bwdMask (fn_main_v46 (F := F) (extractStridedSlice S1x512x224 ![0, 0, 0] (stage3 x) slices_S512x512x224_S1x512x224_0_0_0)
      (extractStridedSlice S511x512x224 ![0, 0, 0] x slices_S512x512x224_S511x512x224_0_0_0)) (stage3 x)

def stage5 : (⟨S512x512x224, .f32⟩ : BufTy).Contents (Elt F) := select restMask x (stage4 x)

set_option maxRecDepth 8192 in
theorem res_eq (m : (ℓ : Loc nD τ sig) → Buf (Elt F) ℓ) (c : Dev nD) : res_out0 m c = stage5 (F := F) (m ((c.tc : Thread nD τ).loc main_arg0)) := by
  unfold stage5 stage4 stage3 stage2 stage1 stage0 restMask fwdMask bwdMask isAt fn_main_v34 fn_main_v38 fn_main_v42 fn_main_v46
  rfl

/-- The value the result is filled with before anything is put in. -/
abbrev zero0 : F .f32 := FloatOps.ofBits .f32 0#32

/-- The reference's result, entry by entry, is the shifted array. -/
theorem stage5_at {r p c : ℕ} (hr : r < 512) (hp : p < 512) (hc : c < 224) (X : ℕ → ℕ → F .f32)
    (hX : ∀ r p c, r < 512 → p < 512 → c < 224 → X r (224 * p + c) = at3 x r p c) :
    at3 (stage5 x) r p c = shifted X zero0 r (224 * p + c) := by
  have h1 : ∀ {r p : ℕ}, r < 512 → p < 512 → at3 (stage1 x) r p c
      = if isFwd c then (if p < 511 then at3 x r (p + 1) c else zero0) else zero0 := by
    intro r p hr hp
    exact (select_at3 fwdMask _ _ (fwd_at hc)).trans (by rw [left_at _ _ hr hp hc]; rfl)
  have h2 : ∀ {r p : ℕ}, r < 512 → p < 512 → at3 (stage2 x) r p c
      = if isBwd c then (if 0 < p then at3 x r (p - 1) c else at3 (stage1 x) r 0 c) else at3 (stage1 x) r p c := by
    intro r p hr hp
    exact (select_at3 bwdMask _ _ (bwd_at hc)).trans (by rw [right_at _ _ hr hp hc])
  have h3 : ∀ {r p : ℕ}, r < 512 → p < 512 → at3 (stage3 x) r p c
      = if isFwd c then (if r < 511 then at3 x (r + 1) p c else at3 (stage2 x) 511 p c) else at3 (stage2 x) r p c := by
    intro r p hr hp
    exact (select_at3 fwdMask _ _ (fwd_at hc)).trans (by rw [up_at _ _ hr hp hc])
  have h4 : ∀ {r p : ℕ}, r < 512 → p < 512 → at3 (stage4 x) r p c
      = if isBwd c then (if 0 < r then at3 x (r - 1) p c else at3 (stage3 x) 0 p c) else at3 (stage3 x) r p c := by
    intro r p hr hp
    exact (select_at3 bwdMask _ _ (bwd_at hc)).trans (by rw [down_at _ _ hr hp hc])
  have h5 : at3 (stage5 x) r p c = if ¬ isFwd c ∧ ¬ isBwd c then at3 x r p c else at3 (stage4 x) r p c :=
    select_at3 restMask _ _ (rest_at hc)
  have hm : (224 * p + c) % 224 = c := by omega
  rw [h5]
  unfold shifted
  rw [hm]
  by_cases hf : isFwd c
  · have hb : ¬ isBwd c := by
      intro hb
      unfold isFwd at hf
      unfold isBwd at hb
      omega
    rw [if_neg (fun h => h.1 hf), if_pos hf, h4 hr hp, if_neg hb, h3 hr hp, if_pos hf, h2 (by omega) hp, if_neg hb, h1 (by omega) hp, if_pos hf]
    by_cases h : r < 511
    · rw [if_pos h, if_pos h, hX _ _ _ (by omega) hp hc]
    rw [if_neg h, if_neg h]
    by_cases h' : p < 511
    · rw [if_pos h', if_pos (by omega), show 224 * p + c + 224 = 224 * (p + 1) + c by omega, hX _ _ _ (by omega) (by omega) hc]
    · rw [if_neg h', if_neg (by omega)]
  rw [if_neg hf]
  by_cases hb : isBwd c
  · rw [if_neg (fun h => h.2 hb), if_pos hb, h4 hr hp, if_pos hb, h3 (by omega) hp, if_neg hf, h2 (by omega) hp, if_pos hb, h1 (by omega) (by omega), if_neg hf]
    by_cases h : 0 < r
    · rw [if_pos h, if_pos h, hX _ _ _ (by omega) hp hc]
    rw [if_neg h, if_neg h]
    by_cases h' : 0 < p
    · rw [if_pos h', if_pos (by omega), show 224 * p + c - 224 = 224 * (p - 1) + c by omega, hX _ _ _ (by omega) (by omega) hc]
    · rw [if_neg h', if_neg (by omega)]
  rw [if_pos ⟨hf, hb⟩, if_neg hb, hX _ _ _ hr hp hc]

end Cert.ReferenceIdeal.Shift
-- ==== Proof.ValueI.lean ====
/-
  The kernel's result is the reference's: both are the shifted array of the argument.
-/
module

public import proofs.«01_k».proof.Defs
public import proofs.«01_k».proof.Proof.BlocksI
public import proofs.«01_k».proof.Proof.RefI

@[expose] public section

noncomputable section

namespace Cert.KernelIdeal.Task

open Cert.KernelIdeal Cert.KernelIdeal.Gen Cert.Proof
open Idealize.ShloMosaic Idealize.SL.Sem

variable {F : FTy → Type} [FloatOps F] (m : (ℓ : Loc nD τ sig) → Buf (Elt F) ℓ) (d : Dev nD)

/-- The entry of an array of rows that stands for a pixel's channel. -/
theorem line_val (r p c : ℕ) (hr : r < 512) (hp : p < 512) (hc : c < 224) :
    ((⟨2, ![512, 114688]⟩ : Shape).rowMajor (ix2 (Fin.ofNat 512 r) (Fin.ofNat 114688 (224 * p + c)))).val = (r * 512 + p) * 224 + c := by
  rw [Shape.rowMajor_val_two]
  have e0 : ((ix2 (Fin.ofNat 512 r) (Fin.ofNat 114688 (224 * p + c))) 0).val = r := Nat.mod_eq_of_lt hr
  have e1 : ((ix2 (Fin.ofNat 512 r) (Fin.ofNat 114688 (224 * p + c))) 1).val = 224 * p + c := Nat.mod_eq_of_lt (by omega)
  rw [e0, e1]
  show r * 114688 + _ = _
  omega

omit [FloatOps F] in
theorem inC_at (r p c : ℕ) (hr : r < 512) (hp : p < 512) (hc : c < 224) :
    at2 (α := F .f32) (M := 512) (N := 114688) (inC m d) r (224 * p + c) = Cert.ReferenceIdeal.Shift.at3 (α := F .f32) (m (argLoc d)) r p c := by
  unfold at2 inC
  refine shapeCast_apply _ _ _ (Cert.ReferenceIdeal.Shift.pt 512 512 224 r p c) ?_
  rw [Shape.rowMajor_val_three]
  obtain ⟨e0, e1, e2⟩ := Cert.ReferenceIdeal.Shift.ix3_val hr hp hc
  refine Eq.trans ?_ (line_val r p c hr hp hc).symm
  exact (by rw [e0, e1, e2]; rfl)

theorem resC_eq : resC m d = Cert.ReferenceIdeal.Shift.stage5 (F := F) (m (argLoc d)) := by
  funext y
  have hr : (y 0).val < 512 := (y 0).isLt
  have hp : (y 1).val < 512 := (y 1).isLt
  have hc : (y 2).val < 224 := (y 2).isLt
  refine Eq.trans ?_ ((Cert.ReferenceIdeal.Shift.stage5_at (F := F) (m (argLoc d)) hr hp hc (at2 (α := F .f32) (M := 512) (N := 114688) (inC m d)) (inC_at m d)).symm.trans
    (Cert.ReferenceIdeal.Shift.at3_of_eq _ y rfl rfl rfl).symm)
  unfold resC
  refine (shapeCast_apply _ _ _ (ix2 (Fin.ofNat 512 (y 0).val) (Fin.ofNat 114688 (224 * (y 1).val + (y 2).val))) ?_).trans ?_
  · refine (line_val _ _ _ hr hp hc).trans ?_
    rw [Shape.rowMajor_val_three]
    rfl
  · unfold outC
    rw [show ((ix2 (Fin.ofNat 512 (y 0).val) (Fin.ofNat 114688 (224 * (y 1).val + (y 2).val))) 0).val = (y 0).val from Nat.mod_eq_of_lt hr,
      show ((ix2 (Fin.ofNat 512 (y 0).val) (Fin.ofNat 114688 (224 * (y 1).val + (y 2).val))) 1).val = 224 * (y 1).val + (y 2).val from Nat.mod_eq_of_lt (by omega)]

end Cert.KernelIdeal.Task
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.LaunchK
public import proofs.«01_k».proof.Proof.LaunchI
public import proofs.«01_k».proof.Proof.ValueI
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel leaves its argument as it was and every counter at zero. -/
theorem frame_kernel : Cert.quiescent_Kernel := fun m ρ _ =>
  (θ_run Cert.Kernel.defs _ _).mono (fun _ h => ⟨fun c => (h.1 c).1, h.2⟩) (Cert.Kernel.Task.run_main (F := Bits) m ρ)

theorem frame_ideal : Cert.quiescent_KernelIdeal := fun m ρ _ =>
  (θ_run Cert.KernelIdeal.defs _ _).mono (fun _ h => ⟨fun c => (h.1 c).1, h.2⟩) (Cert.KernelIdeal.Task.run_main (F := Ideal) m ρ)

/-- The reference has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same result. -/
theorem same_result : Cert.algebraic_KernelIdeal_ReferenceIdeal := by
  intro m ρ m' ρ' _ hx
  refine ⟨fun c => Cert.KernelIdeal.Task.resC m c, ?_, ?_⟩
  · exact (θ_run Cert.KernelIdeal.defs _ _).mono (fun _ h c => ⟨(h.1 c).2, (h.1 c).1⟩) (Cert.KernelIdeal.Task.run_main (F := Ideal) m ρ)
  · refine (θ_run Cert.ReferenceIdeal.defs _ _).mono (fun _ h c => ⟨(h c).1.trans ?_, (h c).2⟩) (Cert.ReferenceIdeal.Value.run (F := Ideal) m' ρ')
    refine (Cert.ReferenceIdeal.Shift.res_eq m' c).trans ?_
    rw [hx c]
    exact (Cert.KernelIdeal.Task.resC_eq m c).symm

theorem claim : Cert.Claim := ⟨Cert.Kernel.Gen.facts, Cert.KernelIdeal.Gen.facts, Cert.ReferenceIdeal.Gen.facts,
  frame_kernel, frame_ideal, frame_reference, trivial, same_result⟩

end Cert.Proof

end
